-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S4096x256 : Shape := ⟨2, ![4096, 256]⟩
abbrev S128x8192 : Shape := ⟨2, ![128, 8192]⟩
abbrev S32x128x256 : Shape := ⟨3, ![32, 128, 256]⟩
abbrev S8x128 : Shape := ⟨2, ![8, 128]⟩
abbrev S32x8x128 : Shape := ⟨3, ![32, 8, 128]⟩
abbrev S32 : Shape := ⟨1, ![32]⟩
abbrev S128x256 : Shape := ⟨2, ![128, 256]⟩
abbrev S1x128x8192 : Shape := ⟨3, ![1, 128, 8192]⟩
abbrev S1 : Shape := ⟨1, ![1]⟩
abbrev S1x1x1 : Shape := ⟨3, ![1, 1, 1]⟩
abbrev S1x8x128 : Shape := ⟨3, ![1, 8, 128]⟩
abbrev S_ : Shape := ⟨0, ![]⟩
abbrev S1x32x8x128 : Shape := ⟨4, ![1, 32, 8, 128]⟩
abbrev S1x1x1x1 : Shape := ⟨4, ![1, 1, 1, 1]⟩
abbrev S1x128x256 : Shape := ⟨3, ![1, 128, 256]⟩

abbrev nBuf : Space → Nat
  | .hbm => 3
  | .vmem => 9
  | .smem => 0
  | _ => 0

abbrev bufTy : (tb : Table) → Fin (tcTables nBuf tb) → BufTy
  | .hbm, ⟨0, _⟩ => ⟨S128x4096, .f32⟩
  | .hbm, ⟨1, _⟩ => ⟨S4096x8192, .f32⟩
  | .hbm, ⟨2, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S128x8192, .f32⟩
  | .local _ .vmem, ⟨5, _⟩ => ⟨S32x128x256, .i8⟩
  | .local _ .vmem, ⟨6, _⟩ => ⟨S32x128x256, .i8⟩
  | .local _ .vmem, ⟨7, _⟩ => ⟨S8x128, .f32⟩
  | .local _ .vmem, ⟨8, _⟩ => ⟨S32x8x128, .f32⟩
  | _, _ => ⟨S128x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 32
abbrev τ : Topo := Topo.v7x

variable {F : FTy → Type} [FloatOps F]

abbrev grid0 : Pipeline.Grid := ⟨1, ![32], ![false]⟩

def k0_off1 (i : grid0.Coords) : Fin 2 → Nat :=
  let c0_4 : Index := 0#32
  let arg0 : BitVec 32 := BitVec.ofNat 32 (i 0).val
  let c256_i32 : BitVec 32 := 256#32
  let v10 : BitVec 32 := Scalar.muli arg0 c256_i32
  let v11 : Index := Scalar.indexCast v10
  ![0, v11.toNat]
def k0_cond1 (i : grid0.Coords) : BitVec 1 :=
  let arg0 : BitVec 32 := BitVec.ofNat 32 (i 0).val
  let c31_i32 : BitVec 32 := 31#32
  let v15 : BitVec 1 := Scalar.cmpi .eq arg0 c31_i32
  let v16 : BitVec 32 := Scalar.extui v15
  let c0_i32 : BitVec 32 := 0#32
  let v17 : BitVec 1 := Scalar.cmpi .ne v16 c0_i32
  v17

def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v27 : Index := Scalar.indexCast v2
  let c0_10 : Index := 0#32
  let c0_11 : Index := 0#32
  ![v27.toNat, 0, 0]
def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v32 : BitVec 32 := Scalar.addi v2 c1_i32_12
  let c32_i32_13 : BitVec 32 := 32#32
  let v33 : BitVec 32 := Scalar.remsi v32 c32_i32_13
  let c1_i32_15 : BitVec 32 := 1#32
  let v34 : BitVec 32 := Scalar.muli v33 c1_i32_15
  let v35 : BitVec 32 := Scalar.addi c0_i32_16 v34
  v35.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v36 : BitVec 32 := Scalar.addi v2 c2_i32
  let c32_i32_17 : BitVec 32 := 32#32
  let v37 : BitVec 32 := Scalar.remsi v36 c32_i32_17
  let c1_i32_19 : BitVec 32 := 1#32
  let v38 : BitVec 32 := Scalar.muli v37 c1_i32_19
  let v39 : BitVec 32 := Scalar.addi c0_i32_20 v38
  v39.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v40 : BitVec 32 := Scalar.addi v2 c3_i32
  let c32_i32_21 : BitVec 32 := 32#32
  let v41 : BitVec 32 := Scalar.remsi v40 c32_i32_21
  let c1_i32_23 : BitVec 32 := 1#32
  let v42 : BitVec 32 := Scalar.muli v41 c1_i32_23
  let v43 : BitVec 32 := Scalar.addi c0_i32_24 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v44 : BitVec 32 := Scalar.addi v2 c4_i32
  let c32_i32_25 : BitVec 32 := 32#32
  let v45 : BitVec 32 := Scalar.remsi v44 c32_i32_25
  let c1_i32_27 : BitVec 32 := 1#32
  let v46 : BitVec 32 := Scalar.muli v45 c1_i32_27
  let v47 : BitVec 32 := Scalar.addi c0_i32_28 v46
  v47.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v48 : BitVec 32 := Scalar.addi v2 c5_i32
  let c32_i32_29 : BitVec 32 := 32#32
  let v49 : BitVec 32 := Scalar.remsi v48 c32_i32_29
  let c1_i32_31 : BitVec 32 := 1#32
  let v50 : BitVec 32 := Scalar.muli v49 c1_i32_31
  let v51 : BitVec 32 := Scalar.addi c0_i32_32 v50
  v51.toNat
def k0_dev6 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v52 : BitVec 32 := Scalar.addi v2 c6_i32
  let c32_i32_33 : BitVec 32 := 32#32
  let v53 : BitVec 32 := Scalar.remsi v52 c32_i32_33
  let c1_i32_35 : BitVec 32 := 1#32
  let v54 : BitVec 32 := Scalar.muli v53 c1_i32_35
  let v55 : BitVec 32 := Scalar.addi c0_i32_36 v54
  v55.toNat
def k0_dev7 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v56 : BitVec 32 := Scalar.addi v2 c7_i32
  let c32_i32_37 : BitVec 32 := 32#32
  let v57 : BitVec 32 := Scalar.remsi v56 c32_i32_37
  let c1_i32_39 : BitVec 32 := 1#32
  let v58 : BitVec 32 := Scalar.muli v57 c1_i32_39
  let v59 : BitVec 32 := Scalar.addi c0_i32_40 v58
  v59.toNat
def k0_dev8 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v60 : BitVec 32 := Scalar.addi v2 c8_i32
  let c32_i32_41 : BitVec 32 := 32#32
  let v61 : BitVec 32 := Scalar.remsi v60 c32_i32_41
  let c1_i32_43 : BitVec 32 := 1#32
  let v62 : BitVec 32 := Scalar.muli v61 c1_i32_43
  let v63 : BitVec 32 := Scalar.addi c0_i32_44 v62
  v63.toNat
def k0_dev9 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v64 : BitVec 32 := Scalar.addi v2 c9_i32
  let c32_i32_45 : BitVec 32 := 32#32
  let v65 : BitVec 32 := Scalar.remsi v64 c32_i32_45
  let c1_i32_47 : BitVec 32 := 1#32
  let v66 : BitVec 32 := Scalar.muli v65 c1_i32_47
  let v67 : BitVec 32 := Scalar.addi c0_i32_48 v66
  v67.toNat
def k0_dev10 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v68 : BitVec 32 := Scalar.addi v2 c10_i32
  let c32_i32_49 : BitVec 32 := 32#32
  let v69 : BitVec 32 := Scalar.remsi v68 c32_i32_49
  let c1_i32_51 : BitVec 32 := 1#32
  let v70 : BitVec 32 := Scalar.muli v69 c1_i32_51
  let v71 : BitVec 32 := Scalar.addi c0_i32_52 v70
  v71.toNat
def k0_dev11 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v72 : BitVec 32 := Scalar.addi v2 c11_i32
  let c32_i32_53 : BitVec 32 := 32#32
  let v73 : BitVec 32 := Scalar.remsi v72 c32_i32_53
  let c1_i32_55 : BitVec 32 := 1#32
  let v74 : BitVec 32 := Scalar.muli v73 c1_i32_55
  let v75 : BitVec 32 := Scalar.addi c0_i32_56 v74
  v75.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v76 : BitVec 32 := Scalar.addi v2 c12_i32
  let c32_i32_57 : BitVec 32 := 32#32
  let v77 : BitVec 32 := Scalar.remsi v76 c32_i32_57
  let c1_i32_59 : BitVec 32 := 1#32
  let v78 : BitVec 32 := Scalar.muli v77 c1_i32_59
  let v79 : BitVec 32 := Scalar.addi c0_i32_60 v78
  v79.toNat
def k0_dev13 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v80 : BitVec 32 := Scalar.addi v2 c13_i32
  let c32_i32_61 : BitVec 32 := 32#32
  let v81 : BitVec 32 := Scalar.remsi v80 c32_i32_61
  let c1_i32_63 : BitVec 32 := 1#32
  let v82 : BitVec 32 := Scalar.muli v81 c1_i32_63
  let v83 : BitVec 32 := Scalar.addi c0_i32_64 v82
  v83.toNat
def k0_dev14 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v84 : BitVec 32 := Scalar.addi v2 c14_i32
  let c32_i32_65 : BitVec 32 := 32#32
  let v85 : BitVec 32 := Scalar.remsi v84 c32_i32_65
  let c1_i32_67 : BitVec 32 := 1#32
  let v86 : BitVec 32 := Scalar.muli v85 c1_i32_67
  let v87 : BitVec 32 := Scalar.addi c0_i32_68 v86
  v87.toNat
def k0_dev15 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v88 : BitVec 32 := Scalar.addi v2 c15_i32
  let c32_i32_69 : BitVec 32 := 32#32
  let v89 : BitVec 32 := Scalar.remsi v88 c32_i32_69
  let c1_i32_71 : BitVec 32 := 1#32
  let v90 : BitVec 32 := Scalar.muli v89 c1_i32_71
  let v91 : BitVec 32 := Scalar.addi c0_i32_72 v90
  v91.toNat
def k0_dev16 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v92 : BitVec 32 := Scalar.addi v2 c16_i32
  let c32_i32_73 : BitVec 32 := 32#32
  let v93 : BitVec 32 := Scalar.remsi v92 c32_i32_73
  let c1_i32_75 : BitVec 32 := 1#32
  let v94 : BitVec 32 := Scalar.muli v93 c1_i32_75
  let v95 : BitVec 32 := Scalar.addi c0_i32_76 v94
  v95.toNat
def k0_dev17 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v96 : BitVec 32 := Scalar.addi v2 c17_i32
  let c32_i32_77 : BitVec 32 := 32#32
  let v97 : BitVec 32 := Scalar.remsi v96 c32_i32_77
  let c1_i32_79 : BitVec 32 := 1#32
  let v98 : BitVec 32 := Scalar.muli v97 c1_i32_79
  let v99 : BitVec 32 := Scalar.addi c0_i32_80 v98
  v99.toNat
def k0_dev18 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v100 : BitVec 32 := Scalar.addi v2 c18_i32
  let c32_i32_81 : BitVec 32 := 32#32
  let v101 : BitVec 32 := Scalar.remsi v100 c32_i32_81
  let c1_i32_83 : BitVec 32 := 1#32
  let v102 : BitVec 32 := Scalar.muli v101 c1_i32_83
  let v103 : BitVec 32 := Scalar.addi c0_i32_84 v102
  v103.toNat
def k0_dev19 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v104 : BitVec 32 := Scalar.addi v2 c19_i32
  let c32_i32_85 : BitVec 32 := 32#32
  let v105 : BitVec 32 := Scalar.remsi v104 c32_i32_85
  let c1_i32_87 : BitVec 32 := 1#32
  let v106 : BitVec 32 := Scalar.muli v105 c1_i32_87
  let v107 : BitVec 32 := Scalar.addi c0_i32_88 v106
  v107.toNat
def k0_dev20 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v108 : BitVec 32 := Scalar.addi v2 c20_i32
  let c32_i32_89 : BitVec 32 := 32#32
  let v109 : BitVec 32 := Scalar.remsi v108 c32_i32_89
  let c1_i32_91 : BitVec 32 := 1#32
  let v110 : BitVec 32 := Scalar.muli v109 c1_i32_91
  let v111 : BitVec 32 := Scalar.addi c0_i32_92 v110
  v111.toNat
def k0_dev21 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v112 : BitVec 32 := Scalar.addi v2 c21_i32
  let c32_i32_93 : BitVec 32 := 32#32
  let v113 : BitVec 32 := Scalar.remsi v112 c32_i32_93
  let c1_i32_95 : BitVec 32 := 1#32
  let v114 : BitVec 32 := Scalar.muli v113 c1_i32_95
  let v115 : BitVec 32 := Scalar.addi c0_i32_96 v114
  v115.toNat
def k0_dev22 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v116 : BitVec 32 := Scalar.addi v2 c22_i32
  let c32_i32_97 : BitVec 32 := 32#32
  let v117 : BitVec 32 := Scalar.remsi v116 c32_i32_97
  let c1_i32_99 : BitVec 32 := 1#32
  let v118 : BitVec 32 := Scalar.muli v117 c1_i32_99
  let v119 : BitVec 32 := Scalar.addi c0_i32_100 v118
  v119.toNat
def k0_dev23 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v120 : BitVec 32 := Scalar.addi v2 c23_i32
  let c32_i32_101 : BitVec 32 := 32#32
  let v121 : BitVec 32 := Scalar.remsi v120 c32_i32_101
  let c1_i32_103 : BitVec 32 := 1#32
  let v122 : BitVec 32 := Scalar.muli v121 c1_i32_103
  let v123 : BitVec 32 := Scalar.addi c0_i32_104 v122
  v123.toNat
def k0_dev24 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v124 : BitVec 32 := Scalar.addi v2 c24_i32
  let c32_i32_105 : BitVec 32 := 32#32
  let v125 : BitVec 32 := Scalar.remsi v124 c32_i32_105
  let c1_i32_107 : BitVec 32 := 1#32
  let v126 : BitVec 32 := Scalar.muli v125 c1_i32_107
  let v127 : BitVec 32 := Scalar.addi c0_i32_108 v126
  v127.toNat
def k0_dev25 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v128 : BitVec 32 := Scalar.addi v2 c25_i32
  let c32_i32_109 : BitVec 32 := 32#32
  let v129 : BitVec 32 := Scalar.remsi v128 c32_i32_109
  let c1_i32_111 : BitVec 32 := 1#32
  let v130 : BitVec 32 := Scalar.muli v129 c1_i32_111
  let v131 : BitVec 32 := Scalar.addi c0_i32_112 v130
  v131.toNat
def k0_dev26 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v132 : BitVec 32 := Scalar.addi v2 c26_i32
  let c32_i32_113 : BitVec 32 := 32#32
  let v133 : BitVec 32 := Scalar.remsi v132 c32_i32_113
  let c1_i32_115 : BitVec 32 := 1#32
  let v134 : BitVec 32 := Scalar.muli v133 c1_i32_115
  let v135 : BitVec 32 := Scalar.addi c0_i32_116 v134
  v135.toNat
def k0_dev27 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v136 : BitVec 32 := Scalar.addi v2 c27_i32
  let c32_i32_117 : BitVec 32 := 32#32
  let v137 : BitVec 32 := Scalar.remsi v136 c32_i32_117
  let c1_i32_119 : BitVec 32 := 1#32
  let v138 : BitVec 32 := Scalar.muli v137 c1_i32_119
  let v139 : BitVec 32 := Scalar.addi c0_i32_120 v138
  v139.toNat
def k0_dev28 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v140 : BitVec 32 := Scalar.addi v2 c28_i32
  let c32_i32_121 : BitVec 32 := 32#32
  let v141 : BitVec 32 := Scalar.remsi v140 c32_i32_121
  let c1_i32_123 : BitVec 32 := 1#32
  let v142 : BitVec 32 := Scalar.muli v141 c1_i32_123
  let v143 : BitVec 32 := Scalar.addi c0_i32_124 v142
  v143.toNat
def k0_dev29 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v144 : BitVec 32 := Scalar.addi v2 c29_i32
  let c32_i32_125 : BitVec 32 := 32#32
  let v145 : BitVec 32 := Scalar.remsi v144 c32_i32_125
  let c1_i32_127 : BitVec 32 := 1#32
  let v146 : BitVec 32 := Scalar.muli v145 c1_i32_127
  let v147 : BitVec 32 := Scalar.addi c0_i32_128 v146
  v147.toNat
def k0_dev30 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v148 : BitVec 32 := Scalar.addi v2 c30_i32
  let c32_i32_129 : BitVec 32 := 32#32
  let v149 : BitVec 32 := Scalar.remsi v148 c32_i32_129
  let c1_i32_131 : BitVec 32 := 1#32
  let v150 : BitVec 32 := Scalar.muli v149 c1_i32_131
  let v151 : BitVec 32 := Scalar.addi c0_i32_132 v150
  v151.toNat
def k0_dev31 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_133 : BitVec 32 := 31#32
  let v152 : BitVec 32 := Scalar.addi v2 c31_i32_133
  let c32_i32_134 : BitVec 32 := 32#32
  let v153 : BitVec 32 := Scalar.remsi v152 c32_i32_134
  let c1_i32_136 : BitVec 32 := 1#32
  let v154 : BitVec 32 := Scalar.muli v153 c1_i32_136
  let v155 : BitVec 32 := Scalar.addi c0_i32_137 v154
  v155.toNat
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_144 : BitVec 32 := 0#32
  let c0_i32_145 : BitVec 32 := 0#32
  ![v2.toNat, 0, 0]
def k0_dev32 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_139 : BitVec 32 := 1#32
  let v156 : BitVec 32 := Scalar.addi v2 c1_i32_139
  let c32_i32_140 : BitVec 32 := 32#32
  let v157 : BitVec 32 := Scalar.remsi v156 c32_i32_140
  let c1_i32_142 : BitVec 32 := 1#32
  let v158 : BitVec 32 := Scalar.muli v157 c1_i32_142
  let v159 : BitVec 32 := Scalar.addi c0_i32_143 v158
  v159.toNat
def k0_dev33 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_146 : BitVec 32 := 2#32
  let v166 : BitVec 32 := Scalar.addi v2 c2_i32_146
  let c32_i32_147 : BitVec 32 := 32#32
  let v167 : BitVec 32 := Scalar.remsi v166 c32_i32_147
  let c1_i32_149 : BitVec 32 := 1#32
  let v168 : BitVec 32 := Scalar.muli v167 c1_i32_149
  let v169 : BitVec 32 := Scalar.addi c0_i32_150 v168
  v169.toNat
def k0_dev34 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_153 : BitVec 32 := 3#32
  let v176 : BitVec 32 := Scalar.addi v2 c3_i32_153
  let c32_i32_154 : BitVec 32 := 32#32
  let v177 : BitVec 32 := Scalar.remsi v176 c32_i32_154
  let c1_i32_156 : BitVec 32 := 1#32
  let v178 : BitVec 32 := Scalar.muli v177 c1_i32_156
  let v179 : BitVec 32 := Scalar.addi c0_i32_157 v178
  v179.toNat
def k0_dev35 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_160 : BitVec 32 := 4#32
  let v186 : BitVec 32 := Scalar.addi v2 c4_i32_160
  let c32_i32_161 : BitVec 32 := 32#32
  let v187 : BitVec 32 := Scalar.remsi v186 c32_i32_161
  let c1_i32_163 : BitVec 32 := 1#32
  let v188 : BitVec 32 := Scalar.muli v187 c1_i32_163
  let v189 : BitVec 32 := Scalar.addi c0_i32_164 v188
  v189.toNat
def k0_dev36 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_167 : BitVec 32 := 5#32
  let v196 : BitVec 32 := Scalar.addi v2 c5_i32_167
  let c32_i32_168 : BitVec 32 := 32#32
  let v197 : BitVec 32 := Scalar.remsi v196 c32_i32_168
  let c1_i32_170 : BitVec 32 := 1#32
  let v198 : BitVec 32 := Scalar.muli v197 c1_i32_170
  let v199 : BitVec 32 := Scalar.addi c0_i32_171 v198
  v199.toNat
def k0_dev37 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_174 : BitVec 32 := 6#32
  let v206 : BitVec 32 := Scalar.addi v2 c6_i32_174
  let c32_i32_175 : BitVec 32 := 32#32
  let v207 : BitVec 32 := Scalar.remsi v206 c32_i32_175
  let c1_i32_177 : BitVec 32 := 1#32
  let v208 : BitVec 32 := Scalar.muli v207 c1_i32_177
  let v209 : BitVec 32 := Scalar.addi c0_i32_178 v208
  v209.toNat
def k0_dev38 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_181 : BitVec 32 := 7#32
  let v216 : BitVec 32 := Scalar.addi v2 c7_i32_181
  let c32_i32_182 : BitVec 32 := 32#32
  let v217 : BitVec 32 := Scalar.remsi v216 c32_i32_182
  let c1_i32_184 : BitVec 32 := 1#32
  let v218 : BitVec 32 := Scalar.muli v217 c1_i32_184
  let v219 : BitVec 32 := Scalar.addi c0_i32_185 v218
  v219.toNat
def k0_dev39 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_188 : BitVec 32 := 8#32
  let v226 : BitVec 32 := Scalar.addi v2 c8_i32_188
  let c32_i32_189 : BitVec 32 := 32#32
  let v227 : BitVec 32 := Scalar.remsi v226 c32_i32_189
  let c1_i32_191 : BitVec 32 := 1#32
  let v228 : BitVec 32 := Scalar.muli v227 c1_i32_191
  let v229 : BitVec 32 := Scalar.addi c0_i32_192 v228
  v229.toNat
def k0_dev40 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_195 : BitVec 32 := 9#32
  let v236 : BitVec 32 := Scalar.addi v2 c9_i32_195
  let c32_i32_196 : BitVec 32 := 32#32
  let v237 : BitVec 32 := Scalar.remsi v236 c32_i32_196
  let c1_i32_198 : BitVec 32 := 1#32
  let v238 : BitVec 32 := Scalar.muli v237 c1_i32_198
  let v239 : BitVec 32 := Scalar.addi c0_i32_199 v238
  v239.toNat
def k0_dev41 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_202 : BitVec 32 := 10#32
  let v246 : BitVec 32 := Scalar.addi v2 c10_i32_202
  let c32_i32_203 : BitVec 32 := 32#32
  let v247 : BitVec 32 := Scalar.remsi v246 c32_i32_203
  let c1_i32_205 : BitVec 32 := 1#32
  let v248 : BitVec 32 := Scalar.muli v247 c1_i32_205
  let v249 : BitVec 32 := Scalar.addi c0_i32_206 v248
  v249.toNat
def k0_dev42 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_209 : BitVec 32 := 11#32
  let v256 : BitVec 32 := Scalar.addi v2 c11_i32_209
  let c32_i32_210 : BitVec 32 := 32#32
  let v257 : BitVec 32 := Scalar.remsi v256 c32_i32_210
  let c1_i32_212 : BitVec 32 := 1#32
  let v258 : BitVec 32 := Scalar.muli v257 c1_i32_212
  let v259 : BitVec 32 := Scalar.addi c0_i32_213 v258
  v259.toNat
def k0_dev43 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_216 : BitVec 32 := 12#32
  let v266 : BitVec 32 := Scalar.addi v2 c12_i32_216
  let c32_i32_217 : BitVec 32 := 32#32
  let v267 : BitVec 32 := Scalar.remsi v266 c32_i32_217
  let c1_i32_219 : BitVec 32 := 1#32
  let v268 : BitVec 32 := Scalar.muli v267 c1_i32_219
  let v269 : BitVec 32 := Scalar.addi c0_i32_220 v268
  v269.toNat
def k0_dev44 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_223 : BitVec 32 := 13#32
  let v276 : BitVec 32 := Scalar.addi v2 c13_i32_223
  let c32_i32_224 : BitVec 32 := 32#32
  let v277 : BitVec 32 := Scalar.remsi v276 c32_i32_224
  let c1_i32_226 : BitVec 32 := 1#32
  let v278 : BitVec 32 := Scalar.muli v277 c1_i32_226
  let v279 : BitVec 32 := Scalar.addi c0_i32_227 v278
  v279.toNat
def k0_dev45 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_230 : BitVec 32 := 14#32
  let v286 : BitVec 32 := Scalar.addi v2 c14_i32_230
  let c32_i32_231 : BitVec 32 := 32#32
  let v287 : BitVec 32 := Scalar.remsi v286 c32_i32_231
  let c1_i32_233 : BitVec 32 := 1#32
  let v288 : BitVec 32 := Scalar.muli v287 c1_i32_233
  let v289 : BitVec 32 := Scalar.addi c0_i32_234 v288
  v289.toNat
def k0_dev46 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_237 : BitVec 32 := 15#32
  let v296 : BitVec 32 := Scalar.addi v2 c15_i32_237
  let c32_i32_238 : BitVec 32 := 32#32
  let v297 : BitVec 32 := Scalar.remsi v296 c32_i32_238
  let c1_i32_240 : BitVec 32 := 1#32
  let v298 : BitVec 32 := Scalar.muli v297 c1_i32_240
  let v299 : BitVec 32 := Scalar.addi c0_i32_241 v298
  v299.toNat
def k0_dev47 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_244 : BitVec 32 := 16#32
  let v306 : BitVec 32 := Scalar.addi v2 c16_i32_244
  let c32_i32_245 : BitVec 32 := 32#32
  let v307 : BitVec 32 := Scalar.remsi v306 c32_i32_245
  let c1_i32_247 : BitVec 32 := 1#32
  let v308 : BitVec 32 := Scalar.muli v307 c1_i32_247
  let v309 : BitVec 32 := Scalar.addi c0_i32_248 v308
  v309.toNat
def k0_dev48 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_251 : BitVec 32 := 17#32
  let v316 : BitVec 32 := Scalar.addi v2 c17_i32_251
  let c32_i32_252 : BitVec 32 := 32#32
  let v317 : BitVec 32 := Scalar.remsi v316 c32_i32_252
  let c1_i32_254 : BitVec 32 := 1#32
  let v318 : BitVec 32 := Scalar.muli v317 c1_i32_254
  let v319 : BitVec 32 := Scalar.addi c0_i32_255 v318
  v319.toNat
def k0_dev49 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_258 : BitVec 32 := 18#32
  let v326 : BitVec 32 := Scalar.addi v2 c18_i32_258
  let c32_i32_259 : BitVec 32 := 32#32
  let v327 : BitVec 32 := Scalar.remsi v326 c32_i32_259
  let c1_i32_261 : BitVec 32 := 1#32
  let v328 : BitVec 32 := Scalar.muli v327 c1_i32_261
  let v329 : BitVec 32 := Scalar.addi c0_i32_262 v328
  v329.toNat
def k0_dev50 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_265 : BitVec 32 := 19#32
  let v336 : BitVec 32 := Scalar.addi v2 c19_i32_265
  let c32_i32_266 : BitVec 32 := 32#32
  let v337 : BitVec 32 := Scalar.remsi v336 c32_i32_266
  let c1_i32_268 : BitVec 32 := 1#32
  let v338 : BitVec 32 := Scalar.muli v337 c1_i32_268
  let v339 : BitVec 32 := Scalar.addi c0_i32_269 v338
  v339.toNat
def k0_dev51 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_272 : BitVec 32 := 20#32
  let v346 : BitVec 32 := Scalar.addi v2 c20_i32_272
  let c32_i32_273 : BitVec 32 := 32#32
  let v347 : BitVec 32 := Scalar.remsi v346 c32_i32_273
  let c1_i32_275 : BitVec 32 := 1#32
  let v348 : BitVec 32 := Scalar.muli v347 c1_i32_275
  let v349 : BitVec 32 := Scalar.addi c0_i32_276 v348
  v349.toNat
def k0_dev52 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_279 : BitVec 32 := 21#32
  let v356 : BitVec 32 := Scalar.addi v2 c21_i32_279
  let c32_i32_280 : BitVec 32 := 32#32
  let v357 : BitVec 32 := Scalar.remsi v356 c32_i32_280
  let c1_i32_282 : BitVec 32 := 1#32
  let v358 : BitVec 32 := Scalar.muli v357 c1_i32_282
  let v359 : BitVec 32 := Scalar.addi c0_i32_283 v358
  v359.toNat
def k0_dev53 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_286 : BitVec 32 := 22#32
  let v366 : BitVec 32 := Scalar.addi v2 c22_i32_286
  let c32_i32_287 : BitVec 32 := 32#32
  let v367 : BitVec 32 := Scalar.remsi v366 c32_i32_287
  let c1_i32_289 : BitVec 32 := 1#32
  let v368 : BitVec 32 := Scalar.muli v367 c1_i32_289
  let v369 : BitVec 32 := Scalar.addi c0_i32_290 v368
  v369.toNat
def k0_dev54 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_293 : BitVec 32 := 23#32
  let v376 : BitVec 32 := Scalar.addi v2 c23_i32_293
  let c32_i32_294 : BitVec 32 := 32#32
  let v377 : BitVec 32 := Scalar.remsi v376 c32_i32_294
  let c1_i32_296 : BitVec 32 := 1#32
  let v378 : BitVec 32 := Scalar.muli v377 c1_i32_296
  let v379 : BitVec 32 := Scalar.addi c0_i32_297 v378
  v379.toNat
def k0_dev55 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_300 : BitVec 32 := 24#32
  let v386 : BitVec 32 := Scalar.addi v2 c24_i32_300
  let c32_i32_301 : BitVec 32 := 32#32
  let v387 : BitVec 32 := Scalar.remsi v386 c32_i32_301
  let c1_i32_303 : BitVec 32 := 1#32
  let v388 : BitVec 32 := Scalar.muli v387 c1_i32_303
  let v389 : BitVec 32 := Scalar.addi c0_i32_304 v388
  v389.toNat
def k0_dev56 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_307 : BitVec 32 := 25#32
  let v396 : BitVec 32 := Scalar.addi v2 c25_i32_307
  let c32_i32_308 : BitVec 32 := 32#32
  let v397 : BitVec 32 := Scalar.remsi v396 c32_i32_308
  let c1_i32_310 : BitVec 32 := 1#32
  let v398 : BitVec 32 := Scalar.muli v397 c1_i32_310
  let v399 : BitVec 32 := Scalar.addi c0_i32_311 v398
  v399.toNat
def k0_dev57 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_314 : BitVec 32 := 26#32
  let v406 : BitVec 32 := Scalar.addi v2 c26_i32_314
  let c32_i32_315 : BitVec 32 := 32#32
  let v407 : BitVec 32 := Scalar.remsi v406 c32_i32_315
  let c1_i32_317 : BitVec 32 := 1#32
  let v408 : BitVec 32 := Scalar.muli v407 c1_i32_317
  let v409 : BitVec 32 := Scalar.addi c0_i32_318 v408
  v409.toNat
def k0_dev58 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_321 : BitVec 32 := 27#32
  let v416 : BitVec 32 := Scalar.addi v2 c27_i32_321
  let c32_i32_322 : BitVec 32 := 32#32
  let v417 : BitVec 32 := Scalar.remsi v416 c32_i32_322
  let c1_i32_324 : BitVec 32 := 1#32
  let v418 : BitVec 32 := Scalar.muli v417 c1_i32_324
  let v419 : BitVec 32 := Scalar.addi c0_i32_325 v418
  v419.toNat
def k0_dev59 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_328 : BitVec 32 := 28#32
  let v426 : BitVec 32 := Scalar.addi v2 c28_i32_328
  let c32_i32_329 : BitVec 32 := 32#32
  let v427 : BitVec 32 := Scalar.remsi v426 c32_i32_329
  let c1_i32_331 : BitVec 32 := 1#32
  let v428 : BitVec 32 := Scalar.muli v427 c1_i32_331
  let v429 : BitVec 32 := Scalar.addi c0_i32_332 v428
  v429.toNat
def k0_dev60 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_335 : BitVec 32 := 29#32
  let v436 : BitVec 32 := Scalar.addi v2 c29_i32_335
  let c32_i32_336 : BitVec 32 := 32#32
  let v437 : BitVec 32 := Scalar.remsi v436 c32_i32_336
  let c1_i32_338 : BitVec 32 := 1#32
  let v438 : BitVec 32 := Scalar.muli v437 c1_i32_338
  let v439 : BitVec 32 := Scalar.addi c0_i32_339 v438
  v439.toNat
def k0_dev61 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_342 : BitVec 32 := 30#32
  let v446 : BitVec 32 := Scalar.addi v2 c30_i32_342
  let c32_i32_343 : BitVec 32 := 32#32
  let v447 : BitVec 32 := Scalar.remsi v446 c32_i32_343
  let c1_i32_345 : BitVec 32 := 1#32
  let v448 : BitVec 32 := Scalar.muli v447 c1_i32_345
  let v449 : BitVec 32 := Scalar.addi c0_i32_346 v448
  v449.toNat
def k0_dev62 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_349 : BitVec 32 := 31#32
  let v456 : BitVec 32 := Scalar.addi v2 c31_i32_349
  let c32_i32_350 : BitVec 32 := 32#32
  let v457 : BitVec 32 := Scalar.remsi v456 c32_i32_350
  let c1_i32_352 : BitVec 32 := 1#32
  let v458 : BitVec 32 := Scalar.muli v457 c1_i32_352
  let v459 : BitVec 32 := Scalar.addi c0_i32_353 v458
  v459.toNat
def k0_off5 (d0 : Dev nD) (c1_i32_356 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v466 : BitVec 32 := Scalar.subi v2 c1_i32_356
  let c32_i32_357 : BitVec 32 := 32#32
  let v467 : BitVec 32 := Scalar.addi v466 c32_i32_357
  let c32_i32_358 : BitVec 32 := 32#32
  let v468 : BitVec 32 := Scalar.remsi v467 c32_i32_358
  ![v468.toNat]
def k0_off6 (d0 : Dev nD) (c1_i32_356 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v466 : BitVec 32 := Scalar.subi v2 c1_i32_356
  let c32_i32_357 : BitVec 32 := 32#32
  let v467 : BitVec 32 := Scalar.addi v466 c32_i32_357
  let c32_i32_358 : BitVec 32 := 32#32
  let v468 : BitVec 32 := Scalar.remsi v467 c32_i32_358
  let c0_i32_362 : BitVec 32 := 0#32
  let c0_i32_363 : BitVec 32 := 0#32
  ![v468.toNat, 0, 0]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_776 : BitVec 32 := 0#32
  let c0_i32_777 : BitVec 32 := 0#32
  ![v2.toNat, 0, 0]
def k0_off8 (d0 : Dev nD) (c1_i32_771 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1135 : BitVec 32 := Scalar.addi v2 c1_i32_771
  let c32_i32_772 : BitVec 32 := 32#32
  let v1136 : BitVec 32 := Scalar.remsi v1135 c32_i32_772
  let c0_i32_778 : BitVec 32 := 0#32
  let c0_i32_779 : BitVec 32 := 0#32
  ![v1136.toNat, 0, 0]
def k0_dev63 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_771 : BitVec 32 := 1#32
  let v1135 : BitVec 32 := Scalar.addi v2 c1_i32_771
  let c32_i32_772 : BitVec 32 := 32#32
  let v1136 : BitVec 32 := Scalar.remsi v1135 c32_i32_772
  let c1_i32_774 : BitVec 32 := 1#32
  let v1137 : BitVec 32 := Scalar.muli v1136 c1_i32_774
  let v1138 : BitVec 32 := Scalar.addi c0_i32_775 v1137
  v1138.toNat
def k0_dev64 (d0 : Dev nD) : Nat :=
  let c0_i32_784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_780 : BitVec 32 := 2#32
  let v1147 : BitVec 32 := Scalar.addi v2 c2_i32_780
  let c32_i32_781 : BitVec 32 := 32#32
  let v1148 : BitVec 32 := Scalar.remsi v1147 c32_i32_781
  let c1_i32_783 : BitVec 32 := 1#32
  let v1149 : BitVec 32 := Scalar.muli v1148 c1_i32_783
  let v1150 : BitVec 32 := Scalar.addi c0_i32_784 v1149
  v1150.toNat
def k0_dev65 (d0 : Dev nD) : Nat :=
  let c0_i32_793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_789 : BitVec 32 := 3#32
  let v1159 : BitVec 32 := Scalar.addi v2 c3_i32_789
  let c32_i32_790 : BitVec 32 := 32#32
  let v1160 : BitVec 32 := Scalar.remsi v1159 c32_i32_790
  let c1_i32_792 : BitVec 32 := 1#32
  let v1161 : BitVec 32 := Scalar.muli v1160 c1_i32_792
  let v1162 : BitVec 32 := Scalar.addi c0_i32_793 v1161
  v1162.toNat
def k0_dev66 (d0 : Dev nD) : Nat :=
  let c0_i32_802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_798 : BitVec 32 := 4#32
  let v1171 : BitVec 32 := Scalar.addi v2 c4_i32_798
  let c32_i32_799 : BitVec 32 := 32#32
  let v1172 : BitVec 32 := Scalar.remsi v1171 c32_i32_799
  let c1_i32_801 : BitVec 32 := 1#32
  let v1173 : BitVec 32 := Scalar.muli v1172 c1_i32_801
  let v1174 : BitVec 32 := Scalar.addi c0_i32_802 v1173
  v1174.toNat
def k0_dev67 (d0 : Dev nD) : Nat :=
  let c0_i32_811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_807 : BitVec 32 := 5#32
  let v1183 : BitVec 32 := Scalar.addi v2 c5_i32_807
  let c32_i32_808 : BitVec 32 := 32#32
  let v1184 : BitVec 32 := Scalar.remsi v1183 c32_i32_808
  let c1_i32_810 : BitVec 32 := 1#32
  let v1185 : BitVec 32 := Scalar.muli v1184 c1_i32_810
  let v1186 : BitVec 32 := Scalar.addi c0_i32_811 v1185
  v1186.toNat
def k0_dev68 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_816 : BitVec 32 := 6#32
  let v1195 : BitVec 32 := Scalar.addi v2 c6_i32_816
  let c32_i32_817 : BitVec 32 := 32#32
  let v1196 : BitVec 32 := Scalar.remsi v1195 c32_i32_817
  let c1_i32_819 : BitVec 32 := 1#32
  let v1197 : BitVec 32 := Scalar.muli v1196 c1_i32_819
  let v1198 : BitVec 32 := Scalar.addi c0_i32_820 v1197
  v1198.toNat
def k0_dev69 (d0 : Dev nD) : Nat :=
  let c0_i32_829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_825 : BitVec 32 := 7#32
  let v1207 : BitVec 32 := Scalar.addi v2 c7_i32_825
  let c32_i32_826 : BitVec 32 := 32#32
  let v1208 : BitVec 32 := Scalar.remsi v1207 c32_i32_826
  let c1_i32_828 : BitVec 32 := 1#32
  let v1209 : BitVec 32 := Scalar.muli v1208 c1_i32_828
  let v1210 : BitVec 32 := Scalar.addi c0_i32_829 v1209
  v1210.toNat
def k0_dev70 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_834 : BitVec 32 := 8#32
  let v1219 : BitVec 32 := Scalar.addi v2 c8_i32_834
  let c32_i32_835 : BitVec 32 := 32#32
  let v1220 : BitVec 32 := Scalar.remsi v1219 c32_i32_835
  let c1_i32_837 : BitVec 32 := 1#32
  let v1221 : BitVec 32 := Scalar.muli v1220 c1_i32_837
  let v1222 : BitVec 32 := Scalar.addi c0_i32_838 v1221
  v1222.toNat
def k0_dev71 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_843 : BitVec 32 := 9#32
  let v1231 : BitVec 32 := Scalar.addi v2 c9_i32_843
  let c32_i32_844 : BitVec 32 := 32#32
  let v1232 : BitVec 32 := Scalar.remsi v1231 c32_i32_844
  let c1_i32_846 : BitVec 32 := 1#32
  let v1233 : BitVec 32 := Scalar.muli v1232 c1_i32_846
  let v1234 : BitVec 32 := Scalar.addi c0_i32_847 v1233
  v1234.toNat
def k0_dev72 (d0 : Dev nD) : Nat :=
  let c0_i32_856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_852 : BitVec 32 := 10#32
  let v1243 : BitVec 32 := Scalar.addi v2 c10_i32_852
  let c32_i32_853 : BitVec 32 := 32#32
  let v1244 : BitVec 32 := Scalar.remsi v1243 c32_i32_853
  let c1_i32_855 : BitVec 32 := 1#32
  let v1245 : BitVec 32 := Scalar.muli v1244 c1_i32_855
  let v1246 : BitVec 32 := Scalar.addi c0_i32_856 v1245
  v1246.toNat
def k0_dev73 (d0 : Dev nD) : Nat :=
  let c0_i32_865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_861 : BitVec 32 := 11#32
  let v1255 : BitVec 32 := Scalar.addi v2 c11_i32_861
  let c32_i32_862 : BitVec 32 := 32#32
  let v1256 : BitVec 32 := Scalar.remsi v1255 c32_i32_862
  let c1_i32_864 : BitVec 32 := 1#32
  let v1257 : BitVec 32 := Scalar.muli v1256 c1_i32_864
  let v1258 : BitVec 32 := Scalar.addi c0_i32_865 v1257
  v1258.toNat
def k0_dev74 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_870 : BitVec 32 := 12#32
  let v1267 : BitVec 32 := Scalar.addi v2 c12_i32_870
  let c32_i32_871 : BitVec 32 := 32#32
  let v1268 : BitVec 32 := Scalar.remsi v1267 c32_i32_871
  let c1_i32_873 : BitVec 32 := 1#32
  let v1269 : BitVec 32 := Scalar.muli v1268 c1_i32_873
  let v1270 : BitVec 32 := Scalar.addi c0_i32_874 v1269
  v1270.toNat
def k0_dev75 (d0 : Dev nD) : Nat :=
  let c0_i32_883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_879 : BitVec 32 := 13#32
  let v1279 : BitVec 32 := Scalar.addi v2 c13_i32_879
  let c32_i32_880 : BitVec 32 := 32#32
  let v1280 : BitVec 32 := Scalar.remsi v1279 c32_i32_880
  let c1_i32_882 : BitVec 32 := 1#32
  let v1281 : BitVec 32 := Scalar.muli v1280 c1_i32_882
  let v1282 : BitVec 32 := Scalar.addi c0_i32_883 v1281
  v1282.toNat
def k0_dev76 (d0 : Dev nD) : Nat :=
  let c0_i32_892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_888 : BitVec 32 := 14#32
  let v1291 : BitVec 32 := Scalar.addi v2 c14_i32_888
  let c32_i32_889 : BitVec 32 := 32#32
  let v1292 : BitVec 32 := Scalar.remsi v1291 c32_i32_889
  let c1_i32_891 : BitVec 32 := 1#32
  let v1293 : BitVec 32 := Scalar.muli v1292 c1_i32_891
  let v1294 : BitVec 32 := Scalar.addi c0_i32_892 v1293
  v1294.toNat
def k0_dev77 (d0 : Dev nD) : Nat :=
  let c0_i32_901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_897 : BitVec 32 := 15#32
  let v1303 : BitVec 32 := Scalar.addi v2 c15_i32_897
  let c32_i32_898 : BitVec 32 := 32#32
  let v1304 : BitVec 32 := Scalar.remsi v1303 c32_i32_898
  let c1_i32_900 : BitVec 32 := 1#32
  let v1305 : BitVec 32 := Scalar.muli v1304 c1_i32_900
  let v1306 : BitVec 32 := Scalar.addi c0_i32_901 v1305
  v1306.toNat
def k0_dev78 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_906 : BitVec 32 := 16#32
  let v1315 : BitVec 32 := Scalar.addi v2 c16_i32_906
  let c32_i32_907 : BitVec 32 := 32#32
  let v1316 : BitVec 32 := Scalar.remsi v1315 c32_i32_907
  let c1_i32_909 : BitVec 32 := 1#32
  let v1317 : BitVec 32 := Scalar.muli v1316 c1_i32_909
  let v1318 : BitVec 32 := Scalar.addi c0_i32_910 v1317
  v1318.toNat
def k0_dev79 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_915 : BitVec 32 := 17#32
  let v1327 : BitVec 32 := Scalar.addi v2 c17_i32_915
  let c32_i32_916 : BitVec 32 := 32#32
  let v1328 : BitVec 32 := Scalar.remsi v1327 c32_i32_916
  let c1_i32_918 : BitVec 32 := 1#32
  let v1329 : BitVec 32 := Scalar.muli v1328 c1_i32_918
  let v1330 : BitVec 32 := Scalar.addi c0_i32_919 v1329
  v1330.toNat
def k0_dev80 (d0 : Dev nD) : Nat :=
  let c0_i32_928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_924 : BitVec 32 := 18#32
  let v1339 : BitVec 32 := Scalar.addi v2 c18_i32_924
  let c32_i32_925 : BitVec 32 := 32#32
  let v1340 : BitVec 32 := Scalar.remsi v1339 c32_i32_925
  let c1_i32_927 : BitVec 32 := 1#32
  let v1341 : BitVec 32 := Scalar.muli v1340 c1_i32_927
  let v1342 : BitVec 32 := Scalar.addi c0_i32_928 v1341
  v1342.toNat
def k0_dev81 (d0 : Dev nD) : Nat :=
  let c0_i32_937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_933 : BitVec 32 := 19#32
  let v1351 : BitVec 32 := Scalar.addi v2 c19_i32_933
  let c32_i32_934 : BitVec 32 := 32#32
  let v1352 : BitVec 32 := Scalar.remsi v1351 c32_i32_934
  let c1_i32_936 : BitVec 32 := 1#32
  let v1353 : BitVec 32 := Scalar.muli v1352 c1_i32_936
  let v1354 : BitVec 32 := Scalar.addi c0_i32_937 v1353
  v1354.toNat
def k0_dev82 (d0 : Dev nD) : Nat :=
  let c0_i32_946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_942 : BitVec 32 := 20#32
  let v1363 : BitVec 32 := Scalar.addi v2 c20_i32_942
  let c32_i32_943 : BitVec 32 := 32#32
  let v1364 : BitVec 32 := Scalar.remsi v1363 c32_i32_943
  let c1_i32_945 : BitVec 32 := 1#32
  let v1365 : BitVec 32 := Scalar.muli v1364 c1_i32_945
  let v1366 : BitVec 32 := Scalar.addi c0_i32_946 v1365
  v1366.toNat
def k0_dev83 (d0 : Dev nD) : Nat :=
  let c0_i32_955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_951 : BitVec 32 := 21#32
  let v1375 : BitVec 32 := Scalar.addi v2 c21_i32_951
  let c32_i32_952 : BitVec 32 := 32#32
  let v1376 : BitVec 32 := Scalar.remsi v1375 c32_i32_952
  let c1_i32_954 : BitVec 32 := 1#32
  let v1377 : BitVec 32 := Scalar.muli v1376 c1_i32_954
  let v1378 : BitVec 32 := Scalar.addi c0_i32_955 v1377
  v1378.toNat
def k0_dev84 (d0 : Dev nD) : Nat :=
  let c0_i32_964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_960 : BitVec 32 := 22#32
  let v1387 : BitVec 32 := Scalar.addi v2 c22_i32_960
  let c32_i32_961 : BitVec 32 := 32#32
  let v1388 : BitVec 32 := Scalar.remsi v1387 c32_i32_961
  let c1_i32_963 : BitVec 32 := 1#32
  let v1389 : BitVec 32 := Scalar.muli v1388 c1_i32_963
  let v1390 : BitVec 32 := Scalar.addi c0_i32_964 v1389
  v1390.toNat
def k0_dev85 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_969 : BitVec 32 := 23#32
  let v1399 : BitVec 32 := Scalar.addi v2 c23_i32_969
  let c32_i32_970 : BitVec 32 := 32#32
  let v1400 : BitVec 32 := Scalar.remsi v1399 c32_i32_970
  let c1_i32_972 : BitVec 32 := 1#32
  let v1401 : BitVec 32 := Scalar.muli v1400 c1_i32_972
  let v1402 : BitVec 32 := Scalar.addi c0_i32_973 v1401
  v1402.toNat
def k0_dev86 (d0 : Dev nD) : Nat :=
  let c0_i32_982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_978 : BitVec 32 := 24#32
  let v1411 : BitVec 32 := Scalar.addi v2 c24_i32_978
  let c32_i32_979 : BitVec 32 := 32#32
  let v1412 : BitVec 32 := Scalar.remsi v1411 c32_i32_979
  let c1_i32_981 : BitVec 32 := 1#32
  let v1413 : BitVec 32 := Scalar.muli v1412 c1_i32_981
  let v1414 : BitVec 32 := Scalar.addi c0_i32_982 v1413
  v1414.toNat
def k0_dev87 (d0 : Dev nD) : Nat :=
  let c0_i32_991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_987 : BitVec 32 := 25#32
  let v1423 : BitVec 32 := Scalar.addi v2 c25_i32_987
  let c32_i32_988 : BitVec 32 := 32#32
  let v1424 : BitVec 32 := Scalar.remsi v1423 c32_i32_988
  let c1_i32_990 : BitVec 32 := 1#32
  let v1425 : BitVec 32 := Scalar.muli v1424 c1_i32_990
  let v1426 : BitVec 32 := Scalar.addi c0_i32_991 v1425
  v1426.toNat
def k0_dev88 (d0 : Dev nD) : Nat :=
  let c0_i32_1000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_996 : BitVec 32 := 26#32
  let v1435 : BitVec 32 := Scalar.addi v2 c26_i32_996
  let c32_i32_997 : BitVec 32 := 32#32
  let v1436 : BitVec 32 := Scalar.remsi v1435 c32_i32_997
  let c1_i32_999 : BitVec 32 := 1#32
  let v1437 : BitVec 32 := Scalar.muli v1436 c1_i32_999
  let v1438 : BitVec 32 := Scalar.addi c0_i32_1000 v1437
  v1438.toNat
def k0_dev89 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1005 : BitVec 32 := 27#32
  let v1447 : BitVec 32 := Scalar.addi v2 c27_i32_1005
  let c32_i32_1006 : BitVec 32 := 32#32
  let v1448 : BitVec 32 := Scalar.remsi v1447 c32_i32_1006
  let c1_i32_1008 : BitVec 32 := 1#32
  let v1449 : BitVec 32 := Scalar.muli v1448 c1_i32_1008
  let v1450 : BitVec 32 := Scalar.addi c0_i32_1009 v1449
  v1450.toNat
def k0_dev90 (d0 : Dev nD) : Nat :=
  let c0_i32_1018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1014 : BitVec 32 := 28#32
  let v1459 : BitVec 32 := Scalar.addi v2 c28_i32_1014
  let c32_i32_1015 : BitVec 32 := 32#32
  let v1460 : BitVec 32 := Scalar.remsi v1459 c32_i32_1015
  let c1_i32_1017 : BitVec 32 := 1#32
  let v1461 : BitVec 32 := Scalar.muli v1460 c1_i32_1017
  let v1462 : BitVec 32 := Scalar.addi c0_i32_1018 v1461
  v1462.toNat
def k0_dev91 (d0 : Dev nD) : Nat :=
  let c0_i32_1027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1023 : BitVec 32 := 29#32
  let v1471 : BitVec 32 := Scalar.addi v2 c29_i32_1023
  let c32_i32_1024 : BitVec 32 := 32#32
  let v1472 : BitVec 32 := Scalar.remsi v1471 c32_i32_1024
  let c1_i32_1026 : BitVec 32 := 1#32
  let v1473 : BitVec 32 := Scalar.muli v1472 c1_i32_1026
  let v1474 : BitVec 32 := Scalar.addi c0_i32_1027 v1473
  v1474.toNat
def k0_dev92 (d0 : Dev nD) : Nat :=
  let c0_i32_1036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1032 : BitVec 32 := 30#32
  let v1483 : BitVec 32 := Scalar.addi v2 c30_i32_1032
  let c32_i32_1033 : BitVec 32 := 32#32
  let v1484 : BitVec 32 := Scalar.remsi v1483 c32_i32_1033
  let c1_i32_1035 : BitVec 32 := 1#32
  let v1485 : BitVec 32 := Scalar.muli v1484 c1_i32_1035
  let v1486 : BitVec 32 := Scalar.addi c0_i32_1036 v1485
  v1486.toNat
def k0_dev93 (d0 : Dev nD) : Nat :=
  let c0_i32_1045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1041 : BitVec 32 := 31#32
  let v1495 : BitVec 32 := Scalar.addi v2 c31_i32_1041
  let c32_i32_1042 : BitVec 32 := 32#32
  let v1496 : BitVec 32 := Scalar.remsi v1495 c32_i32_1042
  let c1_i32_1044 : BitVec 32 := 1#32
  let v1497 : BitVec 32 := Scalar.muli v1496 c1_i32_1044
  let v1498 : BitVec 32 := Scalar.addi c0_i32_1045 v1497
  v1498.toNat
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1507 : Index := Scalar.indexCast v2
  let c0_1050 : Index := 0#32
  let c0_1051 : Index := 0#32
  ![v1507.toNat, 0, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1513 : BitVec 32 := Scalar.muli v2 c128_i32
  let v1514 : Index := Scalar.indexCast v1513
  let c0_1052 : Index := 0#32
  ![v1514.toNat, 0]
def k0_off11 (d0 : Dev nD) (c1_i32_1053 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1516 : BitVec 32 := Scalar.subi v2 c1_i32_1053
  let c32_i32_1054 : BitVec 32 := 32#32
  let v1517 : BitVec 32 := Scalar.addi v1516 c32_i32_1054
  let c32_i32_1055 : BitVec 32 := 32#32
  let v1518 : BitVec 32 := Scalar.remsi v1517 c32_i32_1055
  let c0_i32_1060 : BitVec 32 := 0#32
  let c0_i32_1061 : BitVec 32 := 0#32
  ![v1518.toNat, 0, 0]
def k0_off12 (d0 : Dev nD) (c1_i32_1053 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1516 : BitVec 32 := Scalar.subi v2 c1_i32_1053
  let c32_i32_1054 : BitVec 32 := 32#32
  let v1517 : BitVec 32 := Scalar.addi v1516 c32_i32_1054
  let c32_i32_1055 : BitVec 32 := 32#32
  let v1518 : BitVec 32 := Scalar.remsi v1517 c32_i32_1055
  let v1527 : Index := Scalar.indexCast v1518
  let c0_1064 : Index := 0#32
  let c0_1065 : Index := 0#32
  ![v1527.toNat, 0, 0]
def k0_off13 (d0 : Dev nD) (c1_i32_1053 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1516 : BitVec 32 := Scalar.subi v2 c1_i32_1053
  let c32_i32_1054 : BitVec 32 := 32#32
  let v1517 : BitVec 32 := Scalar.addi v1516 c32_i32_1054
  let c32_i32_1055 : BitVec 32 := 32#32
  let v1518 : BitVec 32 := Scalar.remsi v1517 c32_i32_1055
  let c128_i32_1066 : BitVec 32 := 128#32
  let v1533 : BitVec 32 := Scalar.muli v1518 c128_i32_1066
  let v1534 : Index := Scalar.indexCast v1533
  let c0_1067 : Index := 0#32
  ![v1534.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Comm.lean ====
module

public import proofs.«01_k».proof.Proof.Gen.KernelIdeal.Skeleton

/-! # The exchange, written as loops

At its last grid point every device runs the exchange: the largest entry of its own block goes to the
other thirty-one devices, the block is quantised by the global largest entry, its column panels are
sent round, and what arrives is scaled back into the output window. The printed text unrolls every
loop. Here each loop is written once, over the thirty-one RANKS (rank `r` is the peer `r + 1` places
on) or the thirty-two column panels, and the printed branch is shown to be this text. -/

@[expose] public section

set_option synthInstance.maxSize 4096

noncomputable section

namespace Cert.KernelIdeal.Comm

open Idealize.ShloMosaic Idealize.SL.Sem
open Cert.KernelIdeal.Gen

variable {F : FTy → Type} [FloatOps F]

/-- Run `f` at each entry of a list, in order. -/
def each {E : Type → Type} {α : Type} (f : α → Prog E PUnit) : List α → Prog E PUnit
  | [] => pure ⟨⟩
  | a :: l => f a >>= fun _ => each f l

/-- The thirty-one ranks in the order the program visits them. -/
def ranks : List (Fin 31) :=
  [0, 1, 2, 3, 4, 5, 6, 7, 8, 9, 10, 11, 12, 13, 14, 15, 16, 17, 18, 19, 20, 21, 22, 23, 24, 25, 26, 27, 28, 29, 30]

/-- The thirty-two column panels in the order the program visits them. -/
def panels : List (Fin 32) :=
  [0, 1, 2, 3, 4, 5, 6, 7, 8, 9, 10, 11, 12, 13, 14, 15, 16, 17, 18, 19, 20, 21, 22, 23, 24, 25, 26, 27, 28, 29, 30, 31]

/-- The number of the device `r + 1` places on from `d0`, as the kernel computes it. -/
def peerNo (d0 : Dev nD) (r : Fin 31) : Nat :=
  (Scalar.addi 0#32 (Scalar.muli (Scalar.remsi (Scalar.addi
    (Scalar.remsi (Scalar.divsi (Dev.word d0) 1#32) 32#32) (BitVec.ofNat 32 (1 + r.val))) 32#32) 1#32)).toNat

theorem peerNo_eq : ∀ (d0 : Dev nD) (r : Fin 31), peerNo d0 r = (d0.val + 1 + r.val) % 32 := by decide +kernel

theorem peerNo_lt (d0 : Dev nD) (r : Fin 31) : peerNo d0 r < nD := by
  rw [peerNo_eq]; exact Nat.mod_lt _ (by decide)

/-- The device `r + 1` places on. -/
def peer (d0 : Dev nD) (r : Fin 31) : Dev nD := ⟨peerNo d0 r, peerNo_lt d0 r⟩

theorem rank_inb (r : Fin 31) : ∀ a, (![r.val + 1] : Fin 1 → Nat) a + S1.size a ≤ S32.size a := by
  revert r; decide

theorem panel_inb (p : Fin 32) : ∀ a, (![p.val, 0, 0] : Fin 3 → Nat) a + S1x128x256.size a ≤ S32x128x256.size a := by
  revert p; decide

theorem cols_inb (p : Fin 32) : ∀ a, (![0, 256 * p.val] : Fin 2 → Nat) a + S128x256.size a ≤ S128x8192.size a := by
  revert p; decide

theorem panel_packed (p : Fin 32) : (Rect.unit (s := S32x128x256) ![p.val, 0, 0] S1x128x256.size (panel_inb p)).PackedRows (EltTy.packing .i8) := by
  revert p; decide

/-! ## The vocabulary of the exchange -/

abbrev yRef : Memref sig .tc .vmem S128x8192 .f32 := Memref.whole cc0_scratch0
abbrev qsRef : Memref sig .tc .vmem S32x128x256 .i8 := Memref.whole cc0_scratch1
abbrev qrRef : Memref sig .tc .vmem S32x128x256 .i8 := Memref.whole cc0_scratch2
abbrev asRef : Memref sig .tc .vmem S8x128 .f32 := Memref.whole cc0_scratch3
abbrev arRef : Memref sig .tc .vmem S32x8x128 .f32 := Memref.whole cc0_scratch4

/-- One semaphore of an array of thirty-two. -/
abbrev semAt (s : DmaSems sig S32) (o : Fin 1 → Nat) (h : ∀ a, o a + S1.size a ≤ S32.size a) : DmaSem sig :=
  ((s.slice (Rect.unit (s := S32) o S1.size h)).squeeze S_ squeezes_S1_S_).sem

/-- One slot of the array the largest entries arrive in. -/
abbrev arSlot (o : Fin 3 → Nat) (h : ∀ a, o a + S1x8x128.size a ≤ S32x8x128.size a) : Memref sig .tc .vmem S8x128 .f32 :=
  (arRef.slice (Rect.unit (s := S32x8x128) o S1x8x128.size h) (fun _ => rfl)).squeeze S8x128 squeezes_S1x8x128_S8x128

/-- One panel of the quantised block as sent. -/
abbrev qsSlot (o : Fin 3 → Nat) (h : ∀ a, o a + S1x128x256.size a ≤ S32x128x256.size a) : Memref sig .tc .vmem S128x256 .i8 :=
  (qsRef.slice (Rect.unit (s := S32x128x256) o S1x128x256.size h) (fun _ => rfl)).squeeze S128x256 squeezes_S1x128x256_S128x256

/-- One panel of the quantised blocks as they arrive. -/
abbrev qrSlot (o : Fin 3 → Nat) (h : ∀ a, o a + S1x128x256.size a ≤ S32x128x256.size a) : Memref sig .tc .vmem S128x256 .i8 :=
  (qrRef.slice (Rect.unit (s := S32x128x256) o S1x128x256.size h) (fun _ => rfl)).squeeze S128x256 squeezes_S1x128x256_S128x256

abbrev isWhole_qs : qsRef.IsWhole := Memref.isWhole_whole _
abbrev isWhole_qr : qrRef.IsWhole := Memref.isWhole_whole _
abbrev isWhole_as : asRef.IsWhole := Memref.isWhole_whole _

/-- The effects of one device. -/
abbrev Eff (F : FTy → Type) := TpuEff nD τ sig (Elt F) Λ₀ .tc

/-! ## The steps -/

variable (i : grid0.Coords) (d0 : Dev nD) (h : k0_cond1 i = 1#1)

/-- Tell a peer that this device is inside the kernel. -/
def tell (r : Fin 31) : Prog (Eff F) PUnit :=
  semSignalWord (peer d0 r) (SemArray.scalar (sig.barrier 0 rfl) : Sems sig S_).sem 1#32

/-- Send the largest entry of this device's block to a peer. -/
def sendMax (r : Fin 31) : Prog (Eff F) PUnit :=
  Prog.lift (.enqueueDma asRef (.remote (Dev.tc (peer d0 r)) (arSlot (k0_off4 d0) (k0_off4_inb i d0 h))
      (.dma (semAt cc0_scratch5 ![r.val + 1] (rank_inb r))))
    (.dma (semAt cc0_scratch6 (k0_off3 d0) (k0_off3_inb i d0 h)))
    isWhole_as.wordExact ((View.wordExact_bits rfl).reshape _ _) ⟨⟨rfl, Or.inl rfl⟩, trivial⟩)

/-- Wait for the largest entry of the peer `r + 1` places back. -/
def takeMax (r : Fin 31) : Prog (Eff F) PUnit :=
  Prog.lift (.waitDma2 (semAt cc0_scratch6 (k0_off5 d0 (BitVec.ofNat 32 (1 + r.val))) (k0_off5_inb i d0 h r))
    asRef (arSlot (k0_off6 d0 (BitVec.ofNat 32 (1 + r.val))) (k0_off6_inb i d0 h r))
    isWhole_as.wordExact ((View.wordExact_bits rfl).reshape _ _))

/-- Quantise one column panel of this device's block. -/
def quantPanel (s : F .f32) (p : Fin 32) : Prog (Eff F) PUnit := do
  let v ← Prog.lift (.load yRef (Rect.unit (s := S128x8192) ![0, 256 * p.val] S128x256.size (cols_inb p)).toLoadRect (View.loadsAt_vmem h_S128x256))
  let _ ← Prog.lift (.load qsRef (Rect.unit (s := S32x128x256) ![p.val, 0, 0] S1x128x256.size (panel_inb p)).toLoadRect (View.loadsAt_vmem h_S1x128x256))
  Prog.lift (.store qsRef (Rect.unit (s := S32x128x256) ![p.val, 0, 0] S1x128x256.size (panel_inb p)) (k0_pay9 s v) Finset.univ
    (View.stores_vmem h_S1x128x256 (isWhole_qs.storeExact_slice rfl _ (panel_packed p)) (fun _ => rfl)) (.inl rfl))

/-- Send a peer its panel of this device's block. -/
def sendPanel (r : Fin 31) : Prog (Eff F) PUnit :=
  Prog.lift (.enqueueDma (qsSlot (k0_off8 d0 (BitVec.ofNat 32 (1 + r.val))) (k0_off8_inb i d0 h r))
    (.remote (Dev.tc (peer d0 r)) (qrSlot (k0_off7 d0) (k0_off7_inb i d0 h))
      (.dma (semAt cc0_scratch7 ![r.val + 1] (rank_inb r))))
    (.dma (semAt cc0_scratch8 (k0_off3 d0) (k0_off3_inb i d0 h)))
    ((isWhole_qs.wordExact_slice rfl _ (k0_off8_wordsi8 i d0 h r)).reshape _ _)
    ((isWhole_qr.wordExact_slice rfl _ (k0_off7_wordsi8 i d0 h)).reshape _ _) ⟨⟨rfl, Or.inl rfl⟩, trivial⟩)

/-- Scale this device's own panel back into its output window. -/
def ownRows (arg3 : Memref sig .tc .vmem S4096x256 .f32) (s : F .f32) : Prog (Eff F) PUnit := do
  let v ← Prog.lift (.load qsRef (Rect.unit (s := S32x128x256) (k0_off9 d0) S1x128x256.size (k0_off9_inb i d0 h)).toLoadRect (View.loadsAt_vmem h_S1x128x256))
  let _ ← Prog.lift (.load arg3 (Rect.unit (s := S4096x256) (k0_off10 d0) S128x256.size (k0_off10_inb i d0 h)).toLoadRect (View.loadsAt_vmem h_S128x256))
  Prog.lift (.store arg3 (Rect.unit (s := S4096x256) (k0_off10 d0) S128x256.size (k0_off10_inb i d0 h)) (k0_pay49 s v) Finset.univ
    (View.stores_vmem_bits_univ h_S128x256 rfl) (.inl rfl))

/-- Wait for the panel of the peer `r + 1` places back, and scale it into the output window. -/
def takePanel (arg3 : Memref sig .tc .vmem S4096x256 .f32) (s : F .f32) (r : Fin 31) : Prog (Eff F) PUnit := do
  Prog.lift (.waitDma2 (semAt cc0_scratch8 (k0_off5 d0 (BitVec.ofNat 32 (1 + r.val))) (k0_off5_inb i d0 h r))
    (qsSlot ![0, 0, 0] inb_S32x128x256_S1x128x256_0_0_0)
    (qrSlot (k0_off11 d0 (BitVec.ofNat 32 (1 + r.val))) (k0_off11_inb i d0 h r))
    ((isWhole_qs.wordExact_slice rfl _ wordsi8_S32x128x256_S1x128x256_0_0_0).reshape _ _)
    ((isWhole_qr.wordExact_slice rfl _ (k0_off11_wordsi8 i d0 h r)).reshape _ _))
  let v ← Prog.lift (.load qrRef (Rect.unit (s := S32x128x256) (k0_off12 d0 (BitVec.ofNat 32 (1 + r.val))) S1x128x256.size (k0_off12_inb i d0 h r)).toLoadRect (View.loadsAt_vmem h_S1x128x256))
  let _ ← Prog.lift (.load arg3 (Rect.unit (s := S4096x256) (k0_off13 d0 (BitVec.ofNat 32 (1 + r.val))) S128x256.size (k0_off13_inb i d0 h r)).toLoadRect (View.loadsAt_vmem h_S128x256))
  Prog.lift (.store arg3 (Rect.unit (s := S4096x256) (k0_off13 d0 (BitVec.ofNat 32 (1 + r.val))) S128x256.size (k0_off13_inb i d0 h r)) (k0_pay49 s v) Finset.univ
    (View.stores_vmem_bits_univ h_S128x256 rfl) (.inl rfl))

/-- Wait until both of this device's copies to a peer have left. -/
def settle (r : Fin 31) : Prog (Eff F) PUnit := do
  Prog.lift (.waitDma2 (semAt cc0_scratch5 ![r.val + 1] (rank_inb r))
    (arSlot (k0_off4 d0) (k0_off4_inb i d0 h)) asRef ((View.wordExact_bits rfl).reshape _ _) isWhole_as.wordExact)
  Prog.lift (.waitDma2 (semAt cc0_scratch7 ![r.val + 1] (rank_inb r))
    (qrSlot (k0_off7 d0) (k0_off7_inb i d0 h)) (qsSlot ![0, 0, 0] inb_S32x128x256_S1x128x256_0_0_0)
    ((isWhole_qr.wordExact_slice rfl _ (k0_off7_wordsi8 i d0 h)).reshape _ _)
    ((isWhole_qs.wordExact_slice rfl _ wordsi8_S32x128x256_S1x128x256_0_0_0).reshape _ _))

/-- What the device does first: the largest entry of its own block, into the tile it sends and its own
slot. -/
def ownMax : Prog (Eff F) PUnit := do
  let v18 ← Prog.lift (.load yRef (Rect.unit (s := S128x8192) ![0, 0] S128x8192.size inb_S128x8192_S128x8192_0_0).toLoadRect (View.loadsAt_vmem h_S128x8192))
  let _ ← Prog.lift (.load asRef (Rect.unit (s := S8x128) ![0, 0] S8x128.size inb_S8x128_S8x128_0_0).toLoadRect (View.loadsAt_vmem h_S8x128))
  Prog.lift (.store asRef (Rect.unit (s := S8x128) ![0, 0] S8x128.size inb_S8x128_S8x128_0_0) (k0_pay3 v18) Finset.univ (View.stores_vmem_bits_univ h_S8x128 rfl) (.inl rfl))
  let _ ← Prog.lift (.load arRef (Rect.unit (s := S32x8x128) (k0_off2 d0) S1x8x128.size (k0_off2_inb i d0 h)).toLoadRect (View.loadsAt_vmem h_S1x8x128))
  Prog.lift (.store arRef (Rect.unit (s := S32x8x128) (k0_off2 d0) S1x8x128.size (k0_off2_inb i d0 h)) (k0_pay4 v18) Finset.univ (View.stores_vmem_bits_univ h_S1x8x128 rfl) (.inl rfl))

/-- The whole exchange. -/
def comm (arg3 : Memref sig .tc .vmem S4096x256 .f32) : Prog (Eff F) PUnit := do
  ownMax i d0 h
  each (tell d0) ranks
  semWaitWord (SemArray.scalar (sig.barrier 0 rfl) : Sems sig S_).sem 31#32
  each (sendMax i d0 h) ranks
  each (takeMax i d0 h) ranks
  let v ← Prog.lift (.load arRef (Rect.unit (s := S32x8x128) ![0, 0, 0] S32x8x128.size inb_S32x8x128_S32x8x128_0_0_0).toLoadRect (View.loadsAt_vmem h_S32x8x128))
  each (quantPanel (k0_pay5 v)) panels
  each (sendPanel i d0 h) ranks
  ownRows i d0 h arg3 (k0_pay5 v)
  each (takePanel i d0 h arg3 (k0_pay5 v)) ranks
  each (settle i d0 h) ranks

/-- One grid point: the step's column panel of `relu (x · w)`, and at the last point the exchange. -/
def point (arg1 : Memref sig .tc .vmem S128x4096 .f32) (arg2 : Memref sig .tc .vmem S4096x256 .f32)
    (arg3 : Memref sig .tc .vmem S4096x256 .f32) : Prog (Eff F) PUnit := do
  let d0 ← Prog.lift .deviceId
  let v3 ← Prog.lift (.load arg1 (Rect.unit (s := S128x4096) ![0, 0] S128x4096.size inb_S128x4096_S128x4096_0_0).toLoadRect (View.loadsAt_vmem h_S128x4096))
  let v5 ← Prog.lift (.load arg2 (Rect.unit (s := S4096x256) ![0, 0] S4096x256.size inb_S4096x256_S4096x256_0_0).toLoadRect (View.loadsAt_vmem h_S4096x256))
  let _ ← Prog.lift (.load yRef (Rect.unit (s := S128x8192) (k0_off1 i) S128x256.size (k0_off1_inb i)).toLoadRect (View.loadsAt_vmem h_S128x256))
  Prog.lift (.store yRef (Rect.unit (s := S128x8192) (k0_off1 i) S128x256.size (k0_off1_inb i)) (k0_pay1 v3 v5) Finset.univ (View.stores_vmem_bits_univ h_S128x256 rfl) (.inl rfl))
  if h : k0_cond1 i = 1#1 then do
    comm i d0 h arg3
  else pure ⟨⟩
  pure ⟨⟩

/-- Two programs are equal when their first effects are and they go on equally from every answer. -/
theorem op_congr {E : Type → Type} {α β : Type} {e e' : E β} {k k' : β → Prog E α} (he : e = e')
    (hk : ∀ x, k x = k' x) : Prog.op e k = Prog.op e' k' := by
  subst he; rw [funext hk]

set_option maxRecDepth 65536 in
set_option maxHeartbeats 4000000 in
/-- The printed exchange is this text, one effect at a time. -/
theorem body_eq (arg1 : Memref sig .tc .vmem S128x4096 .f32) (harg1 : arg1.IsWhole) (arg2 : Memref sig .tc .vmem S4096x256 .f32)
    (harg2 : arg2.IsWhole) (arg3 : Memref sig .tc .vmem S4096x256 .f32) (harg3 : arg3.IsWhole) :
    cc0_body (F := F) i arg1 harg1 arg2 harg2 arg3 harg3 yRef (Memref.isWhole_whole _) qsRef isWhole_qs qrRef isWhole_qr
      asRef isWhole_as arRef (Memref.isWhole_whole _) cc0_scratch5 cc0_scratch6 cc0_scratch7 cc0_scratch8
      = point i arg1 arg2 arg3 := by
  rw [cc0_body_eq_skeleton]
  unfold cc0_body_skel point
  by_cases h : k0_cond1 i = 1#1
  · simp only [dif_pos h]
    unfold comm ownMax
    repeat (refine op_congr ?_ ?_; · rfl
            intro _)
    rfl
  · simp only [dif_neg h]
    rfl

end Cert.KernelIdeal.Comm
-- ==== Proof.Slots.lean ====
module

public import proofs.«01_k».proof.Proof.Comm
public import Idealize.ShloMosaic.Lib.Ring
public import Idealize.ShloMosaic.Lib.ViewIndex

/-! # Slots and panels

The receive buffers and the send buffer are cut along their first axis into thirty-two slots. Here
stand the slots' elements, where a slot's own index lies in the buffer, and what a read or a write
through a slot or a panel does at an index. -/

@[expose] public section

noncomputable section

namespace Cert.KernelIdeal.Comm

open Idealize.ShloMosaic Idealize.ShloMosaic.TcCoe
open Cert.KernelIdeal.Gen
open Idealize.ShloMosaic.Shape (idx3_ext)

variable {Val : EltTy → Type}

theorem ar_inb (s : Fin 32) : ∀ a, (![s.val, 0, 0] : Fin 3 → Nat) a + S1x8x128.size a ≤ S32x8x128.size a := by
  revert s; decide

theorem rows_inb (s : Fin 32) : ∀ a, (![128 * s.val, 0] : Fin 2 → Nat) a + S128x256.size a ≤ S4096x256.size a := by
  revert s; decide

theorem sem_inb (s : Fin 32) : ∀ a, (![s.val] : Fin 1 → Nat) a + S1.size a ≤ S32.size a := by
  revert s; decide

/-- Slot `s` of the buffer the largest entries arrive in. -/
abbrev slotA (s : Fin 32) : Memref sig .tc .vmem S8x128 .f32 := arSlot ![s.val, 0, 0] (ar_inb s)
/-- Panel `s` of the block as sent. -/
abbrev slotQ (s : Fin 32) : Memref sig .tc .vmem S128x256 .i8 := qsSlot ![s.val, 0, 0] (panel_inb s)
/-- Panel `s` of the blocks as they arrive. -/
abbrev slotR (s : Fin 32) : Memref sig .tc .vmem S128x256 .i8 := qrSlot ![s.val, 0, 0] (panel_inb s)

/-! ## Indices -/

/-- The index `x` of slot `s`, in the buffer of largest entries. -/
def inA (s : Fin 32) (x : S8x128.Idx) : S32x8x128.Idx := fun | 0 => s | 1 => x 0 | 2 => x 1
/-- The index `x` of panel `s`. -/
def inQ (s : Fin 32) (x : S128x256.Idx) : S32x128x256.Idx := fun | 0 => s | 1 => x 0 | 2 => x 1
/-- The slot's own index of a buffer index. -/
def tailA (i : S32x8x128.Idx) : S8x128.Idx := fun | 0 => i 1 | 1 => i 2
def tailQ (i : S32x128x256.Idx) : S128x256.Idx := fun | 0 => i 1 | 1 => i 2
/-- The same index under a leading axis of extent one. -/
def oneA (x : S8x128.Idx) : S1x8x128.Idx := fun | 0 => (0 : Fin 1) | 1 => x 0 | 2 => x 1
def oneQ (x : S128x256.Idx) : S1x128x256.Idx := fun | 0 => (0 : Fin 1) | 1 => x 0 | 2 => x 1
def unoneA (x : S1x8x128.Idx) : S8x128.Idx := fun | 0 => x 1 | 1 => x 2
def unoneQ (x : S1x128x256.Idx) : S128x256.Idx := fun | 0 => x 1 | 1 => x 2

theorem ext2 {d : Fin 2 → ℕ} {x y : (⟨2, d⟩ : Shape).Idx} (h0 : (x 0).val = (y 0).val) (h1 : (x 1).val = (y 1).val) : x = y :=
  funext fun a => Fin.ext (match a with | 0 => h0 | 1 => h1)

theorem tail_inA (s : Fin 32) (x : S8x128.Idx) : tailA (inA s x) = x := ext2 rfl rfl
theorem tail_inQ (s : Fin 32) (x : S128x256.Idx) : tailQ (inQ s x) = x := ext2 rfl rfl
theorem inA_tail (i : S32x8x128.Idx) : inA (i 0) (tailA i) = i := idx3_ext rfl rfl rfl
theorem inQ_tail (i : S32x128x256.Idx) : inQ (i 0) (tailQ i) = i := idx3_ext rfl rfl rfl
theorem unone_oneA (x : S8x128.Idx) : unoneA (oneA x) = x := ext2 rfl rfl
theorem unone_oneQ (x : S128x256.Idx) : unoneQ (oneQ x) = x := ext2 rfl rfl
theorem one_unoneA (x : S1x8x128.Idx) : oneA (unoneA x) = x :=
  idx3_ext (by have := (x 0).isLt; have e : ((oneA (unoneA x)) 0).val = 0 := rfl; rw [e]; change (x 0).val < 1 at this; omega) rfl rfl
theorem one_unoneQ (x : S1x128x256.Idx) : oneQ (unoneQ x) = x :=
  idx3_ext (by have := (x 0).isLt; have e : ((oneQ (unoneQ x)) 0).val = 0 := rfl; rw [e]; change (x 0).val < 1 at this; omega) rfl rfl

/-- Matching an index with the one under a leading unit axis by row-major position puts zero there. -/
theorem reshape_cons {n : ℕ} (d : Fin n → ℕ) (h : (⟨n, d⟩ : Shape).numel = (⟨n + 1, Matrix.vecCons 1 d⟩ : Shape).numel)
    (x : (⟨n, d⟩ : Shape).Idx) (y : (⟨n + 1, Matrix.vecCons 1 d⟩ : Shape).Idx) (hy : ∀ a, y a.succ = x a) :
    Shape.reshapeEquiv h x = y := by
  apply Shape.reshapeEquiv_eq_of_rowMajor
  show (Shape.rowMajorPi (Matrix.vecCons 1 d) y).val = (Shape.rowMajorPi d x).val
  have h0 : (y 0).val = 0 := by have := (y 0).isLt; change (y 0).val < 1 at this; omega
  rw [Shape.rowMajorPi_succ_val, h0, Nat.zero_mul, Nat.zero_add]
  exact congrArg (fun z => (Shape.rowMajorPi d z).val) (funext hy)

theorem emb_slotA (s : Fin 32) (x : S8x128.Idx) : (slotA s).view.emb x = inA s x := by
  show (Rect.unit (s := S32x8x128) ![s.val, 0, 0] S1x8x128.size (ar_inb s)).emb (Shape.reshapeEquiv _ x) = inA s x
  rw [reshape_cons ![8, 128] _ x (oneA x) (fun a => match a with | 0 => rfl | 1 => rfl)]
  exact idx3_ext (show s.val + 1 * 0 = s.val by omega) (show 0 + 1 * (x 0).val = (x 0).val by omega)
    (show 0 + 1 * (x 1).val = (x 1).val by omega)

theorem emb_slotQ (s : Fin 32) (x : S128x256.Idx) : (slotQ s).view.emb x = inQ s x := by
  show (Rect.unit (s := S32x128x256) ![s.val, 0, 0] S1x128x256.size (panel_inb s)).emb (Shape.reshapeEquiv _ x) = inQ s x
  rw [reshape_cons ![128, 256] _ x (oneQ x) (fun a => match a with | 0 => rfl | 1 => rfl)]
  exact idx3_ext (show s.val + 1 * 0 = s.val by omega) (show 0 + 1 * (x 0).val = (x 0).val by omega)
    (show 0 + 1 * (x 1).val = (x 1).val by omega)

theorem emb_slotR (s : Fin 32) (x : S128x256.Idx) : (slotR s).view.emb x = inQ s x := emb_slotQ s x

/-- The rectangle of slot `s`, as the plain loads and stores name it. -/
abbrev rectA (s : Fin 32) : Rect S32x8x128 := Rect.unit (s := S32x8x128) ![s.val, 0, 0] S1x8x128.size (ar_inb s)
abbrev rectQ (s : Fin 32) : Rect S32x128x256 := Rect.unit (s := S32x128x256) ![s.val, 0, 0] S1x128x256.size (panel_inb s)
/-- The columns of panel `p`, in the whole block; and the rows of source `s`, in the output window. -/
abbrev rectY (p : Fin 32) : Rect S128x8192 := Rect.unit (s := S128x8192) ![0, 256 * p.val] S128x256.size (cols_inb p)
abbrev rectO (s : Fin 32) : Rect S4096x256 := Rect.unit (s := S4096x256) ![128 * s.val, 0] S128x256.size (rows_inb s)

theorem emb_rectA (s : Fin 32) (x : S1x8x128.Idx) : (rectA s).emb x = inA s (unoneA x) := by
  have h0 : (x 0).val = 0 := by have := (x 0).isLt; change (x 0).val < 1 at this; omega
  exact idx3_ext (show s.val + 1 * (x 0).val = s.val by omega) (show 0 + 1 * (x 1).val = (x 1).val by omega)
    (show 0 + 1 * (x 2).val = (x 2).val by omega)

theorem emb_rectQ (s : Fin 32) (x : S1x128x256.Idx) : (rectQ s).emb x = inQ s (unoneQ x) := by
  have h0 : (x 0).val = 0 := by have := (x 0).isLt; change (x 0).val < 1 at this; omega
  exact idx3_ext (show s.val + 1 * (x 0).val = s.val by omega) (show 0 + 1 * (x 1).val = (x 1).val by omega)
    (show 0 + 1 * (x 2).val = (x 2).val by omega)

/-- The index `x` of column panel `p`. -/
def inY (p : Fin 32) (x : S128x256.Idx) : S128x8192.Idx := fun
  | 0 => x 0
  | 1 => (⟨256 * p.val + (x 1).val, by have := (x 1).isLt; change (x 1).val < 256 at this; have := p.isLt; omega⟩ : Fin 8192)
/-- The index `x` of the rows of source `s`. -/
def inO (s : Fin 32) (x : S128x256.Idx) : S4096x256.Idx := fun
  | 0 => (⟨128 * s.val + (x 0).val, by have := (x 0).isLt; change (x 0).val < 128 at this; have := s.isLt; omega⟩ : Fin 4096)
  | 1 => x 1
/-- Which column panel an index of the block is in, and where in it. -/
def panelOf (j : S128x8192.Idx) : Fin 32 := ⟨(j 1).val / 256, by have := (j 1).isLt; change (j 1).val < 8192 at this; omega⟩
def restY (j : S128x8192.Idx) : S128x256.Idx := fun | 0 => j 0 | 1 => (⟨(j 1).val % 256, Nat.mod_lt _ (by decide)⟩ : Fin 256)
/-- Which source's rows an index of the output window is in, and where in them. -/
def sourceOf (j : S4096x256.Idx) : Fin 32 := ⟨(j 0).val / 128, by have := (j 0).isLt; change (j 0).val < 4096 at this; omega⟩
def restO (j : S4096x256.Idx) : S128x256.Idx := fun | 0 => (⟨(j 0).val % 128, Nat.mod_lt _ (by decide)⟩ : Fin 128) | 1 => j 1

theorem inY_rest (j : S128x8192.Idx) : inY (panelOf j) (restY j) = j :=
  ext2 rfl (show 256 * ((j 1).val / 256) + (j 1).val % 256 = (j 1).val by omega)
theorem inO_rest (j : S4096x256.Idx) : inO (sourceOf j) (restO j) = j :=
  ext2 (show 128 * ((j 0).val / 128) + (j 0).val % 128 = (j 0).val by omega) rfl
theorem panel_inY (p : Fin 32) (x : S128x256.Idx) : panelOf (inY p x) = p :=
  Fin.ext (by have := (x 1).isLt; change (x 1).val < 256 at this; show (256 * p.val + (x 1).val) / 256 = p.val; omega)
theorem rest_inY (p : Fin 32) (x : S128x256.Idx) : restY (inY p x) = x :=
  ext2 rfl (by have := (x 1).isLt; change (x 1).val < 256 at this; show (256 * p.val + (x 1).val) % 256 = (x 1).val; omega)
theorem source_inO (s : Fin 32) (x : S128x256.Idx) : sourceOf (inO s x) = s :=
  Fin.ext (by have := (x 0).isLt; change (x 0).val < 128 at this; show (128 * s.val + (x 0).val) / 128 = s.val; omega)
theorem rest_inO (s : Fin 32) (x : S128x256.Idx) : restO (inO s x) = x :=
  ext2 (by have := (x 0).isLt; change (x 0).val < 128 at this; show (128 * s.val + (x 0).val) % 128 = (x 0).val; omega) rfl

theorem emb_rectY (p : Fin 32) (x : S128x256.Idx) : (rectY p).emb x = inY p x :=
  ext2 (show 0 + 1 * (x 0).val = (x 0).val by omega) (show 256 * p.val + 1 * (x 1).val = 256 * p.val + (x 1).val by omega)
theorem emb_rectO (s : Fin 32) (x : S128x256.Idx) : (rectO s).emb x = inO s x :=
  ext2 (show 128 * s.val + 1 * (x 0).val = 128 * s.val + (x 0).val by omega) (show 0 + 1 * (x 1).val = (x 1).val by omega)

/-! ## Element sets -/

theorem set_slotA (s : Fin 32) : (slotA s).view.set = (rectA s).set := by
  rw [show (slotA s).view.set = ((View.whole cc0_scratch4).slice (rectA s)).set from View.set_reshape _ _]
  exact View.set_slice_whole _ _
theorem set_slotQ (s : Fin 32) : (slotQ s).view.set = (rectQ s).set := by
  rw [show (slotQ s).view.set = ((View.whole cc0_scratch1).slice (rectQ s)).set from View.set_reshape _ _]
  exact View.set_slice_whole _ _
theorem set_slotR (s : Fin 32) : (slotR s).view.set = (rectQ s).set := by
  rw [show (slotR s).view.set = ((View.whole cc0_scratch2).slice (rectQ s)).set from View.set_reshape _ _]
  exact View.set_slice_whole _ _

theorem rectA_disjoint (s s' : Fin 32) (h : s ≠ s') : Disjoint (rectA s).set (rectA s').set :=
  Ring.lead_disjoint (s := S32x8x128) (NB := 32) (0 : Fin 3) 1 (fun s => ![s.val, 0, 0]) S1x8x128.size ar_inb
    (fun b => (Nat.one_mul _).symm) rfl s s' h
theorem rectA_cover : Finset.univ.biUnion (fun s => (rectA s).set) = Finset.univ :=
  Ring.lead_cover (s := S32x8x128) (NB := 32) (0 : Fin 3) 1 (fun s => ![s.val, 0, 0]) S1x8x128.size ar_inb
    (fun b => (Nat.one_mul _).symm) (fun b a h => by revert b a; decide) rfl (fun a h => by revert a; decide) rfl
theorem rectQ_disjoint (s s' : Fin 32) (h : s ≠ s') : Disjoint (rectQ s).set (rectQ s').set :=
  Ring.lead_disjoint (s := S32x128x256) (NB := 32) (0 : Fin 3) 1 (fun s => ![s.val, 0, 0]) S1x128x256.size panel_inb
    (fun b => (Nat.one_mul _).symm) rfl s s' h
theorem rectQ_cover : Finset.univ.biUnion (fun s => (rectQ s).set) = Finset.univ :=
  Ring.lead_cover (s := S32x128x256) (NB := 32) (0 : Fin 3) 1 (fun s => ![s.val, 0, 0]) S1x128x256.size panel_inb
    (fun b => (Nat.one_mul _).symm) (fun b a h => by revert b a; decide) rfl (fun a h => by revert a; decide) rfl

/-! ## Reads and writes at an index -/

section Access

variable {κ : Kind} {sp : Space} {s : Shape} {e : EltTy}

/-- What a write through a rectangle of a whole buffer leaves under the rectangle, -/
theorem write_rect_in (b : Ref sig .tc) (r : Rect b.ty.shape) (f : b.ty.Contents Val) (w : r.shape.Idx → Val b.ty.elt) (x : r.shape.Idx) :
    ((Memref.whole b).access r : View sig .tc _ _ _).write Val f w Finset.univ (r.emb x) = w x :=
  ((Memref.whole b).access r : View sig .tc _ _ _).write_emb_of_mem f w (Finset.mem_univ x)

/-- and elsewhere. -/
theorem write_rect_out (b : Ref sig .tc) (r : Rect b.ty.shape) (f : b.ty.Contents Val) (w : r.shape.Idx → Val b.ty.elt)
    (i : b.ty.Idx) (h : ∀ x, r.emb x ≠ i) :
    ((Memref.whole b).access r : View sig .tc _ _ _).write Val f w Finset.univ i = f i :=
  ((Memref.whole b).access r : View sig .tc _ _ _).write_of_not_mem f w Finset.univ (by
    intro hm
    obtain ⟨x, -, hx⟩ := Finset.mem_map.mp hm
    exact h x hx)

theorem read_rect (b : Ref sig .tc) (r : Rect b.ty.shape) (f : b.ty.Contents Val) (x : r.shape.Idx) :
    (Memref.whole b : Memref sig .tc _ _ _).view.readAt Val r.toLoadRect f x = f (r.emb x) := rfl

/-- What a copy into a slot leaves there. -/
theorem write_slotA (s : Fin 32) (f : S32x8x128.Idx → Val .f32) (w : S8x128.Idx → Val .f32) (x : S8x128.Idx) :
    (slotA s).view.write Val f w Finset.univ (inA s x) = w x := by
  rw [← emb_slotA]
  exact (slotA s).view.write_emb_of_mem f w (Finset.mem_univ x)

theorem write_slotR (s : Fin 32) (f : S32x128x256.Idx → Val .i8) (w : S128x256.Idx → Val .i8) (x : S128x256.Idx) :
    (slotR s).view.write Val f w Finset.univ (inQ s x) = w x := by
  rw [← emb_slotR]
  exact (slotR s).view.write_emb_of_mem f w (Finset.mem_univ x)

end Access

end Cert.KernelIdeal.Comm
-- ==== Proof.Contents.lean ====
module

public import proofs.«01_k».proof.Proof.Slots
public import proofs.«01_k».proof.Proof.Gen.KernelIdeal.Frame

/-! # What every buffer holds

From the memory at launch: the block a device computes, the tile of its largest entry, all tiles, the
scale, the block quantised, what arrives from every source, and the output window. Then what the
kernel's loads read of these and what its stores and copies add to them. -/

@[expose] public section

set_option maxRecDepth 16384

noncomputable section

namespace Cert.KernelIdeal.Comm

open Idealize.ShloMosaic Idealize.ShloMosaic.TcCoe
open Cert.KernelIdeal.Gen
open Idealize.ShloMosaic.Shape (idx3_ext)

variable {F : FTy → Type} [FloatOps F]
variable (m : (ℓ : Loc nD τ sig) → Buf (Elt F) ℓ)

theorem N32 : cfg0.N = 32 := by decide

/-- The grid point of column panel `p`. -/
def pt (p : Fin 32) : Fin cfg0.N := ⟨p.val, by rw [N32]; exact p.isLt⟩

/-- Column panel `p` of device `c`'s block of `relu (x · w)`. -/
def ycol (c : Dev nD) (p : Fin 32) : Vec F S128x256 .f32 := k0_pay1 (iblk m c 0 (pt p)) (iblk m c 1 (pt p))
/-- Device `c`'s block. -/
def Y (c : Dev nD) : Vec F S128x8192 .f32 := fun j => ycol m c (panelOf j) (restY j)
/-- The largest entry of device `c`'s block, in every place of a tile. -/
def tile (c : Dev nD) : Vec F S8x128 .f32 := k0_pay3 (Y m c)
/-- All the tiles. -/
def AR : Vec F S32x8x128 .f32 := fun i => tile m (i 0) (tailA i)
/-- The scale. -/
def scale : F .f32 := k0_pay5 (AR m)
/-- Device `c`'s block quantised, panel by panel. -/
def QS (c : Dev nD) : Vec F S32x128x256 .i8 := fun i => k0_pay9 (scale m) (ycol m c (i 0)) (oneQ (tailQ i))
/-- What arrives at device `c`: from source `s` the panel `c` of its block. -/
def QR (c : Dev nD) : Vec F S32x128x256 .i8 := fun i => QS m (i 0) (inQ c (tailQ i))
/-- The panel of source `s` for device `c`. -/
def part (c s : Dev nD) : Vec F S1x128x256 .i8 := fun x => QS m s (inQ c (unoneQ x))
/-- Device `c`'s output window. -/
def OUT (c : Dev nD) : Vec F S4096x256 .f32 := fun j => k0_pay49 (scale m) (part m c (sourceOf j)) (restO j)

/-! ## The block, point by point -/

theorem read_Y (c : Dev nD) (p : Fin 32) : yRef.view.readAt (Elt F) (rectY p).toLoadRect (Y m c) = ycol m c p :=
  funext fun x => by
    rw [read_rect, emb_rectY]; unfold Y; rw [panel_inY, rest_inY]

theorem read_Y_all (c : Dev nD) :
    yRef.view.readAt (Elt F) (Rect.unit (s := S128x8192) ![0, 0] S128x8192.size inb_S128x8192_S128x8192_0_0).toLoadRect (Y m c) = Y m c :=
  Memref.readAt_unit_zero (Elt F) cc0_scratch0 (funext fun a => by fin_cases a <;> rfl) _ _

/-- The store of panel `p` completes the panels below `p + 1`. -/
theorem write_Y (c : Dev nD) (p : Fin 32) (f : Vec F S128x8192 .f32) (hf : ∀ j, (panelOf j).val < p.val → f j = Y m c j) :
    ∀ j, (panelOf j).val < p.val + 1 →
      (yRef.access (rectY p) : View sig .tc _ _ _).write (Elt F) f (ycol m c p) Finset.univ j = Y m c j := by
  intro j hj
  rcases Nat.lt_succ_iff_lt_or_eq.mp hj with h | h
  · rw [write_rect_out]
    · exact hf j h
    · intro x hx
      rw [emb_rectY] at hx
      rw [← hx, panel_inY] at h
      exact Nat.lt_irrefl _ h
  · have hp : panelOf j = p := Fin.ext h
    have hj' : (rectY p).emb (restY j) = j := by rw [emb_rectY, ← hp, inY_rest]
    conv_lhs => rw [← hj']
    rw [write_rect_in]
    unfold Y
    rw [hp]

/-! ## The tiles -/

theorem write_as (c : Dev nD) (f : Vec F S8x128 .f32) :
    (asRef.access (Rect.unit (s := S8x128) ![0, 0] S8x128.size inb_S8x128_S8x128_0_0) : View sig .tc _ _ _).write (Elt F) f
      (k0_pay3 (Y m c)) Finset.univ = tile m c :=
  Memref.write_access_unit_zero_univ (Elt F) cc0_scratch3 (funext fun a => by fin_cases a <;> rfl) _ _ _

/-- The tile as stored into the device's own slot. -/
theorem pay4_eq (v : Vec F S128x8192 .f32) (x : S1x8x128.Idx) : k0_pay4 v x = k0_pay3 v (unoneA x) := by
  unfold k0_pay4 k0_pay3
  show shapeCast S1x8x128 (k0_pay2 v) _ x = shapeCast S8x128 (k0_pay2 v) _ (unoneA x)
  rfl

theorem write_ownA (c : Dev nD) (f : Vec F S32x8x128 .f32) :
    ∀ j ∈ (rectA c).set, (arRef.access (rectA c) : View sig .tc _ _ _).write (Elt F) f (k0_pay4 (Y m c)) Finset.univ j = AR m j := by
  intro j hj
  rw [← set_slotA] at hj
  obtain ⟨y, -, rfl⟩ := Finset.mem_map.mp hj
  rw [emb_slotA]
  obtain ⟨x, rfl⟩ : ∃ x, unoneA x = y := ⟨oneA y, unone_oneA y⟩
  rw [← emb_rectA, write_rect_in, pay4_eq, emb_rectA]
  unfold AR
  rw [tail_inA]
  rfl

theorem read_AR : arRef.view.readAt (Elt F) (Rect.unit (s := S32x8x128) ![0, 0, 0] S32x8x128.size inb_S32x8x128_S32x8x128_0_0_0).toLoadRect (AR m) = AR m :=
  Memref.readAt_unit_zero (Elt F) cc0_scratch4 (funext fun a => by fin_cases a <;> rfl) _ _

/-- What a tile's copy leaves in slot `c` of a peer. -/
theorem copy_A (c : Dev nD) (fd : Vec F S32x8x128 .f32) :
    ∀ j ∈ (slotA c).view.set, (slotA c).view.write (Elt F) fd (asRef.view.read (Elt F) (tile m c)) Finset.univ j = AR m j := by
  intro j hj
  obtain ⟨x, -, rfl⟩ := Finset.mem_map.mp hj
  rw [emb_slotA, write_slotA]
  unfold AR
  rw [tail_inA]
  exact congrFun (View.read_whole cc0_scratch3 (tile m c)) x

/-! ## The quantised panels -/

theorem write_Q (c : Dev nD) (p : Fin 32) (l : List (Fin 32)) (f : Vec F S32x128x256 .i8)
    (hf : ∀ j : S32x128x256.Idx, (j 0 : Fin 32) ∉ p :: l → f j = QS m c j) :
    ∀ j : S32x128x256.Idx, (j 0 : Fin 32) ∉ l →
      (qsRef.access (rectQ p) : View sig .tc _ _ _).write (Elt F) f (k0_pay9 (scale m) (ycol m c p)) Finset.univ j = QS m c j := by
  intro j hj
  by_cases h : (j 0 : Fin 32) = p
  · have hj' : (rectQ p).emb (oneQ (tailQ j)) = j := by rw [emb_rectQ, unone_oneQ, ← h, inQ_tail]
    conv_lhs => rw [← hj']
    rw [write_rect_in]
    unfold QS
    rw [h]
  · rw [write_rect_out]
    · exact hf j fun hm => (List.mem_cons.mp hm).elim h hj
    · intro x hx
      rw [emb_rectQ] at hx
      exact h (by rw [← hx]; rfl)

/-- What a panel's copy leaves in panel `c` of its target `e`. -/
theorem copy_Q (c e : Dev nD) (fd : Vec F S32x128x256 .i8) :
    ∀ j ∈ (slotR c).view.set, (slotR c).view.write (Elt F) fd ((slotQ e).view.read (Elt F) (QS m c)) Finset.univ j = QR m e j := by
  intro j hj
  obtain ⟨x, -, rfl⟩ := Finset.mem_map.mp hj
  rw [emb_slotR, write_slotR]
  unfold QR
  rw [tail_inQ]
  show QS m c ((slotQ e).view.emb x) = _
  rw [emb_slotQ]
  rfl

/-! ## The output window -/

theorem read_own (c : Dev nD) : qsRef.view.readAt (Elt F) (rectQ c).toLoadRect (QS m c) = part m c c :=
  funext fun x => by rw [read_rect, emb_rectQ]; rfl

theorem read_part (c s : Dev nD) : qrRef.view.readAt (Elt F) (rectQ s).toLoadRect (QR m c) = part m c s :=
  funext fun x => by
    rw [read_rect, emb_rectQ]; unfold QR part; rw [tail_inQ]; rfl

/-- The rows of source `s` added to the window: `done` are the sources in place. -/
theorem write_O (c s : Dev nD) (P : Fin 32 → Prop) (P' : Fin 32 → Prop) (hP : ∀ a, P' a → a = s ∨ P a) (f : Vec F S4096x256 .f32)
    (hf : ∀ j, P (sourceOf j) → f j = OUT m c j) :
    ∀ j, P' (sourceOf j) →
      (((Memref.whole cc0_stg2_0 : Memref sig .tc .vmem S4096x256 .f32)).access (rectO s) : View sig .tc _ _ _).write (Elt F) f
        (k0_pay49 (scale m) (part m c s)) Finset.univ j = OUT m c j := by
  intro j hj
  by_cases h : sourceOf j = s
  · have hj' : (rectO s).emb (restO j) = j := by rw [emb_rectO, ← h, inO_rest]
    conv_lhs => rw [← hj']
    rw [write_rect_in]
    unfold OUT
    rw [h]
  · rw [write_rect_out]
    · exact hf j ((hP _ hj).resolve_left h)
    · intro x hx
      rw [emb_rectO] at hx
      exact h (by rw [← hx, source_inO])

end Cert.KernelIdeal.Comm
-- ==== Proof.Proto.lean ====
module

public import proofs.«01_k».proof.Proof.Contents
public import Idealize.ShloMosaic.Lib.Pipeline.Launch
public import Idealize.ShloMosaic.Lib.Pipeline.Kit
public import Idealize.ShloMosaic.Lib.Pipeline.BigSepL
public import Idealize.ShloMosaic.Lib.Rounds
public import Idealize.ShloMosaic.Lib.Rounds.Family
public import Idealize.ShloMosaic.Lib.ShareLeaves
public import Idealize.ShloMosaic.Lib.Tactic

/-! # The protocol

Every semaphore of the exchange has one round. A device's barrier counts one unit from each of the
other thirty-one devices; with its unit a device hands over the two slots it keeps for the signalled
device. An arrival semaphore counts the one copy that lands in its slot and hands over the slot with
what landed; a departure semaphore counts the one copy that leaves and hands back what was read. -/

@[expose] public section

set_option maxRecDepth 16384

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Ranks and devices -/

/-- The device `r + 1` places back. -/
def back (c : Dev nD) (r : Fin 31) : Dev nD := ⟨((c.val + 31) - r.val) % 32, Nat.mod_lt _ (by decide)⟩

theorem peer_val (c : Dev nD) (r : Fin 31) : (peer c r).val = (c.val + 1 + r.val) % 32 := peerNo_eq c r
theorem back_val (c : Dev nD) (r : Fin 31) : (back c r).val = ((c.val + 31) - r.val) % 32 := rfl

theorem peer_inj (c : Dev nD) : Function.Injective (peer c) := fun r r' h => by
  have := congrArg Fin.val h
  rw [peer_val, peer_val] at this
  have := r.isLt; have := r'.isLt; have := c.isLt
  exact Fin.ext (by omega)
theorem back_inj (c : Dev nD) : Function.Injective (back c) := fun r r' h => by
  have := congrArg Fin.val h
  rw [back_val, back_val] at this
  have := r.isLt; have := r'.isLt; have := c.isLt
  exact Fin.ext (by omega)
theorem peer_ne (c : Dev nD) (r : Fin 31) : peer c r ≠ c := fun h => by
  have := congrArg Fin.val h
  rw [peer_val] at this
  have := r.isLt; have := c.isLt
  omega
theorem back_ne (c : Dev nD) (r : Fin 31) : back c r ≠ c := fun h => by
  have := congrArg Fin.val h
  rw [back_val] at this
  have := r.isLt; have := c.isLt
  omega
theorem back_peer (c : Dev nD) (r : Fin 31) : back (peer c r) r = c := Fin.ext (by
  rw [back_val, peer_val]
  have := r.isLt; have : c.val < 32 := c.isLt
  omega)
theorem peer_back (c : Dev nD) (r : Fin 31) : peer (back c r) r = c := Fin.ext (by
  rw [peer_val, back_val]
  have := r.isLt; have : c.val < 32 := c.isLt
  omega)

/-- The rank of a numbered departure semaphore. -/
def rankOf (s : Fin 32) : Fin 31 := ⟨s.val - 1, by have := s.isLt; omega⟩
theorem rankOf_succ (r : Fin 31) : rankOf r.succ = r := Fin.ext (Nat.add_sub_cancel _ _)

section Sums

variable {M : Type} [URA M]

theorem ranks_univ : (Finset.univ : Finset (Fin 31)) = ranks.toFinset := by decide
theorem ranks_nodup : ranks.Nodup := by decide
theorem panels_nodup : panels.Nodup := by decide
theorem panels_univ : (Finset.univ : Finset (Fin 32)) = panels.toFinset := by decide

theorem bigSep_ranks (Φ : Fin 31 → sProp M) : bigSep Finset.univ Φ = bigSepL ranks Φ :=
  bigSep_univ_eq_bigSepL ranks ranks_univ ranks_nodup Φ

theorem bigSepL_sep' {I : Type} (l : List I) (Φ Ψ : I → sProp M) :
    bigSepL l (fun i => iprop(Φ i ∗ Ψ i)) = iprop(bigSepL l Φ ∗ bigSepL l Ψ) := by
  induction l with
  | nil => exact (BI.Entails.antisymm (sep_emp (PROP := sProp M)).1 (sep_emp (PROP := sProp M)).2).symm
  | cons a l ih =>
    rw [bigSepL_cons', bigSepL_cons', bigSepL_cons', ih]
    have h1 : iprop((Φ a ∗ Ψ a) ∗ bigSepL l Φ ∗ bigSepL l Ψ) ⊢ iprop((Φ a ∗ bigSepL l Φ) ∗ Ψ a ∗ bigSepL l Ψ) := by
      iintro ⟨⟨H1, H2⟩, H3, H4⟩
      isplitl [H1 H3]
      · isplitl [H1] <;> iassumption
      · isplitl [H2] <;> iassumption
    have h2 : iprop((Φ a ∗ bigSepL l Φ) ∗ Ψ a ∗ bigSepL l Ψ) ⊢ iprop((Φ a ∗ Ψ a) ∗ bigSepL l Φ ∗ bigSepL l Ψ) := by
      iintro ⟨⟨H1, H3⟩, H2, H4⟩
      isplitl [H1 H2]
      · isplitl [H1] <;> iassumption
      · isplitl [H3] <;> iassumption
    exact BI.Entails.antisymm h1 h2

/-- Thirty-two of something: one apart, the others by rank. -/
theorem bigSep_apart (a : Fin 32) (g : Fin 31 → Fin 32) (hg : Function.Injective g) (ha : ∀ r, g r ≠ a) (Φ : Fin 32 → sProp M) :
    bigSep Finset.univ Φ = iprop(Φ a ∗ bigSepL ranks fun r => Φ (g r)) := by
  have hn : (a :: ranks.map g).Nodup :=
    List.nodup_cons.mpr ⟨fun hm => by obtain ⟨r, -, hr⟩ := List.mem_map.mp hm; exact ha r hr, ranks_nodup.map hg⟩
  have hu : (Finset.univ : Finset (Fin 32)) = (a :: ranks.map g).toFinset := by
    symm
    rw [← Finset.card_eq_iff_eq_univ, List.toFinset_card_of_nodup hn]
    simp [ranks]
  rw [bigSep_univ_eq_bigSepL _ hu hn, bigSepL_cons', bigSepL_map]

theorem bigSep_peer (c : Dev nD) (Φ : Fin 32 → sProp M) : bigSep Finset.univ Φ = iprop(Φ c ∗ bigSepL ranks fun r => Φ (peer c r)) :=
  bigSep_apart c (peer c) (peer_inj c) (peer_ne c) Φ
theorem bigSep_back (c : Dev nD) (Φ : Fin 32 → sProp M) : bigSep Finset.univ Φ = iprop(Φ c ∗ bigSepL ranks fun r => Φ (back c r)) :=
  bigSep_apart c (back c) (back_inj c) (back_ne c) Φ
theorem bigSep_succ (Φ : Fin 32 → sProp M) : bigSep Finset.univ Φ = iprop(Φ 0 ∗ bigSepL ranks fun r => Φ r.succ) :=
  bigSep_apart 0 Fin.succ (Fin.succ_injective 31) (fun r => Fin.succ_ne_zero r) Φ

/-- All devices but one, by rank. -/
theorem bigSep_others (c : Dev nD) (Φ : Fin 32 → sProp M) : bigSep (Finset.univ.erase c) Φ = bigSepL ranks fun r => Φ (peer c r) := by
  have hn : (ranks.map (peer c)).Nodup := ranks_nodup.map (peer_inj c)
  have hu : (Finset.univ.erase c : Finset (Fin 32)) = (ranks.map (peer c)).toFinset := by
    symm
    refine Finset.eq_of_subset_of_card_le (fun x hx => ?_) ?_
    · obtain ⟨r, -, rfl⟩ := List.mem_map.mp (List.mem_toFinset.mp hx)
      exact Finset.mem_erase.mpr ⟨peer_ne c r, Finset.mem_univ _⟩
    · rw [List.toFinset_card_of_nodup hn, Finset.card_erase_of_mem (Finset.mem_univ _)]
      simp [ranks]
  rw [bigSep_eq_bigSepL_of_eq _ hu hn, bigSepL_map]

end Sums

/-! ## Semaphores and cells -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- The barrier semaphore. -/
abbrev barS : Sem sig := (SemArray.scalar (sig.barrier 0 rfl) : Sems sig S_).sem

/-- The four arrays: tiles leaving, tiles arriving, panels leaving, panels arriving. -/
abbrev semArr : Fin 4 → DmaSems sig S32 := fun | 0 => cc0_scratch5 | 1 => cc0_scratch6 | 2 => cc0_scratch7 | 3 => cc0_scratch8

abbrev dsem (k : Fin 4) (s : Fin 32) : DmaSem sig := semAt (semArr k) ![s.val] (sem_inb s)

theorem dsem_val : ∀ (k : Fin 4) (s : Fin 32), (dsem k s).val = 4 + 32 * k.val + s.val := by decide +kernel

theorem semAt_eq (a : DmaSems sig S32) {o o' : Fin 1 → Nat} (h : o = o') (ho) (ho') : semAt a o ho = semAt a o' ho' := by
  subst h; rfl

/-- A device's semaphores: its barrier, and the four arrays. -/
abbrev Own : Type := Option (Fin 4 × Fin 32)
abbrev csem : Own → SemLoc sig := fun | none => .reg barS | some (k, s) => .dma (dsem k s)
abbrev kcell (ck : Dev nD × Own) : GSem nD τ sig := ((ck.1 : Thread nD τ), csem ck.2)

theorem dsem_inj {k k' : Fin 4} {s s' : Fin 32} (h : dsem k s = dsem k' s') : k = k' ∧ s = s' := by
  have := congrArg Fin.val h
  rw [dsem_val, dsem_val] at this
  have := s.isLt; have := s'.isLt
  exact ⟨Fin.ext (by omega), Fin.ext (by omega)⟩

theorem csem_inj : Function.Injective csem := by
  rintro (_ | ⟨k, s⟩) (_ | ⟨k', s'⟩) h
  · rfl
  · cases h
  · cases h
  · obtain ⟨rfl, rfl⟩ := dsem_inj (SemLoc.dma.inj h); rfl

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- Which of the exchange's cells a cell is. -/
def dec : GSem nD τ sig → Option (Dev nD × Own) := Function.partialInv kcell
theorem dec_kcell (k : Dev nD × Own) : dec (kcell k) = some k := Function.partialInv_left kcell_inj k
theorem dec_other (g : GSem nD τ sig) (h : ∀ k, kcell k ≠ g) : dec g = none := by
  unfold dec Function.partialInv
  exact dif_neg fun ⟨k, hk⟩ => h k hk

/-- What a tile's, a panel's copy counts. -/
def NA : ℕ := (asRef).view.dmaCredit
def NQ : ℕ := (slotQ 0).view.dmaCredit
theorem NA_pos : 0 < NA := View.dmaCredit_pos _ (by decide)
theorem NQ_pos : 0 < NQ := View.dmaCredit_pos _ (by decide)

/-! ## What is handed over -/

def ptA (c : Dev nD) (s : Fin 32) (f : Vec F S32x8x128 .f32) : sProp 𝕄 :=
  (slotA s).view.loc (c : Thread nD τ) ↦[(slotA s).view.set]{fullShare} f
def ptQ (c : Dev nD) (s : Fin 32) (f : Vec F S32x128x256 .i8) : sProp 𝕄 :=
  (slotQ s).view.loc (c : Thread nD τ) ↦[(slotQ s).view.set]{fullShare} f
def ptR (c : Dev nD) (s : Fin 32) (f : Vec F S32x128x256 .i8) : sProp 𝕄 :=
  (slotR s).view.loc (c : Thread nD τ) ↦[(slotR s).view.set]{fullShare} f
/-- One thirty-second of the tile being sent. -/
def ptS (c : Dev nD) (s : Fin 32) : sProp 𝕄 :=
  (asRef).view.loc (c : Thread nD τ) ↦[(asRef).view.set]{ShareLeaves.leaf 5 fullShare s} tile m c

instance ptA_storable (c : Dev nD) (s f) : BI.Storable (upEmb : UEmb _ 𝕄) (ptA (F := F) c s f) := by unfold ptA; infer_instance
instance ptQ_storable (c : Dev nD) (s f) : BI.Storable (upEmb : UEmb _ 𝕄) (ptQ (F := F) c s f) := by unfold ptQ; infer_instance
instance ptR_storable (c : Dev nD) (s f) : BI.Storable (upEmb : UEmb _ 𝕄) (ptR (F := F) c s f) := by unfold ptR; infer_instance
instance ptS_storable (c : Dev nD) (s) : BI.Storable (upEmb : UEmb _ 𝕄) (ptS (F := F) m c s) := by unfold ptS; infer_instance

def dutiesOf : Dev nD × Own → Finset (Dev nD)
  | (c, none) => Finset.univ.erase c
  | (c, some (k, s)) => if k.val % 2 = 0 then (if s = 0 then ∅ else {c}) else (if s = c then ∅ else {s})

def amountOf : Dev nD × Own → ℕ
  | (_, none) => 1
  | (_, some (k, _)) => if k.val < 2 then NA else NQ

/-- What device `p`'s payment on the cell hands its owner. -/
def payOf : Dev nD × Own → Dev nD → sProp 𝕄
  | (c, none), p => iprop((∃ f, ptA p c f) ∗ ∃ f, ptR p c f)
  | (c, some (0, s)), _ => ptS m c s
  | (c, some (1, s)), _ => ptA c s (AR m)
  | (c, some (2, s)), _ => ptQ c (peer c (rankOf s)) (QS m c)
  | (c, some (3, s)), _ => ptR c s (QR m c)

theorem amountOf_pos : ∀ k, 0 < amountOf k
  | (_, none) => Nat.one_pos
  | (_, some (k, _)) => by
    show 0 < if k.val < 2 then NA else NQ
    split
    · exact NA_pos
    · exact NQ_pos

instance payOf_storable : ∀ (k : Dev nD × Own) (d : Dev nD), BI.Storable (upEmb : UEmb _ 𝕄) (payOf (F := F) m k d)
  | (c, none), p => by show BI.Storable upEmb iprop((∃ f, ptA p c f) ∗ ∃ f, ptR p c f); infer_instance
  | (c, some (0, s)), _ => ptS_storable m c s
  | (c, some (1, s)), _ => ptA_storable c s _
  | (c, some (2, s)), _ => ptQ_storable c _ _
  | (c, some (3, s)), _ => ptR_storable c s _

/-- The schedule. -/
def Rd : Rounds.Schedule (GSem nD τ sig) (Dev nD) 𝕄 where
  duties g r := if r = 0 then (dec g).elim ∅ dutiesOf else ∅
  unitless _ := False
  amount g _ _ := (dec g).elim 1 amountOf
  payload g _ d := (dec g).elim iprop(emp) fun k => payOf m k d
  amount_pos g _ _ _ := by
    cases dec g with
    | none => exact Nat.one_pos
    | some k => exact amountOf_pos k

instance Rd_storable (g : GSem nD τ sig) (r : ℕ) (d : Dev nD) : BI.Storable (upEmb : UEmb _ 𝕄) ((Rd (F := F) m).payload g r d) := by
  show BI.Storable upEmb ((dec g).elim iprop(emp) fun k => payOf m k d)
  cases dec g with
  | none => show BI.Storable upEmb iprop(emp); infer_instance
  | some k => exact payOf_storable m k d

theorem duties_eq (k : Dev nD × Own) : (Rd (F := F) m).duties (kcell k) 0 = dutiesOf k := by
  dsimp only [Rd]; rw [if_pos rfl, dec_kcell]; rfl
theorem duties_later (g : GSem nD τ sig) (r : ℕ) (h : 1 ≤ r) : (Rd (F := F) m).duties g r = ∅ := by
  dsimp only [Rd]; exact if_neg (by omega)
theorem amount_eq (k : Dev nD × Own) (d : Dev nD) : (Rd (F := F) m).amount (kcell k) 0 d = amountOf k := by
  dsimp only [Rd]; rw [dec_kcell]; rfl
theorem payload_eq (k : Dev nD × Own) (d : Dev nD) : (Rd (F := F) m).payload (kcell k) 0 d = payOf m k d := by
  dsimp only [Rd]; rw [dec_kcell]; rfl

theorem expect_eq (k : Dev nD × Own) : (Rd (F := F) m).expect (kcell k) 0 = (dutiesOf k).card * amountOf k := by
  unfold Schedule.expect Schedule.amountOf
  rw [duties_eq, Finset.sum_congr rfl fun d _ => amount_eq m k d, Finset.sum_const, smul_eq_mul]

theorem rest_eq (k : Dev nD × Own) : bigSep ((Rd (F := F) m).duties (kcell k) 0 \ ∅) (fun d => (Rd (F := F) m).payload (kcell k) 0 d)
    = bigSep (dutiesOf k) (payOf m k) := by
  rw [Finset.sdiff_empty, duties_eq]
  exact bigSep_congr fun d _ => payload_eq m k d

theorem duties_leave (c : Dev nD) (k : Fin 4) (hk : k.val % 2 = 0) (r : Fin 31) : dutiesOf (c, some (k, r.succ)) = {c} := by
  show (if k.val % 2 = 0 then (if r.succ = 0 then ∅ else {c}) else _) = _
  rw [if_pos hk, if_neg (Fin.succ_ne_zero r)]
theorem duties_arrive (c : Dev nD) (k : Fin 4) (hk : k.val % 2 ≠ 0) (s : Dev nD) (hs : s ≠ c) : dutiesOf (c, some (k, s)) = {s} := by
  show (if k.val % 2 = 0 then _ else (if s = c then ∅ else {s})) = _
  rw [if_neg hk, if_neg hs]

/-! ## What each device owes; the levels -/

abbrev Tally : Type := CellTallies nD τ sig Unit

/-- A sum over ranks, the first taken off first. -/
def owed (g : Fin 31 → Tally) : List (Fin 31) → Tally
  | [] => 0
  | a :: l => owed g l + g a

def gB (c : Dev nD) (r : Fin 31) : Tally := tallyAt (kcell (peer c r, none)) () 1
def gA (c : Dev nD) (r : Fin 31) : Tally := tallyAt (kcell (peer c r, some (1, c))) () NA
def gQ (c : Dev nD) (r : Fin 31) : Tally := tallyAt (kcell (peer c r, some (3, c))) () NQ

/-- What device `c` owes at launch: a copy of a panel, a copy of its tile and a unit to every peer. -/
def O₀ (c : Dev nD) : Tally := (owed (gQ c) ranks + owed (gA c) ranks) + owed (gB c) ranks

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier below the tiles' arrivals below the panels' arrivals, everything else at the bottom. -/
def lvOf : Dev nD × Own → ℕ
  | (_, none) => 1
  | (_, some (k, _)) => if k = 1 then 2 else if k = 3 then 3 else 0
def lv (g : GSem nD τ sig) (_ : Unit) : ℕ := (dec g).elim 0 lvOf
theorem lv_kcell (k : Dev nD × Own) (u : Unit) : lv (kcell k) u = lvOf k := by unfold lv; rw [dec_kcell]; rfl

/-- What a sum over ranks holds a positive amount at is a cell of one of its ranks. -/
theorem owed_pos (p : Fin 31 → Dev nD × Own) (n : ℕ) {l : List (Fin 31)} {g : GSem nD τ sig} {u : Unit}
    (h : 0 < owed (fun r => tallyAt (kcell (p r)) () n) l g u) : ∃ r, g = kcell (p r) := by
  induction l with
  | nil => exact absurd h (Nat.lt_irrefl 0)
  | cons a l ih =>
    unfold owed at h
    rw [Pi.add_apply, Finsupp.add_apply] at h
    rcases Nat.pos_of_ne_zero (fun h0 => by omega : owed (fun r => tallyAt (kcell (p r)) () n) l g u + tallyAt (kcell (p a)) () n g u ≠ 0)
      |> Nat.add_pos_iff_pos_or_pos.mp with h1 | h1
    · exact ih h1
    · rw [tallyAt_apply] at h1
      by_cases hg : g = kcell (p a) ∧ u = ()
      · exact ⟨a, hg.1⟩
      · rw [if_neg hg] at h1; exact absurd h1 (Nat.lt_irrefl 0)

/-- A wait below every cell owed. -/
theorem mayWait_of (c : Dev nD) (sm : SemLoc sig) (O : Tally) (n : ℕ) (hs : lv ((c : Thread nD τ), sm) () ≤ n)
    (hO : ∀ g u, 0 < O g u → ∃ k, g = kcell k ∧ n < lvOf k) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨k, rfl, -⟩ := hO g u hg; exact Finset.mem_singleton_self _)
    (fun p hp => by rw [Finset.mem_singleton.mp hp]; exact hs)
    (fun g u hg => by obtain ⟨k, rfl, hk⟩ := hO g u hg; rw [lv_kcell]; exact hk)

theorem add_pos_cases {O O' : Tally} {g : GSem nD τ sig} {u : Unit} (h : 0 < (O + O') g u) : 0 < O g u ∨ 0 < O' g u := by
  rw [Pi.add_apply, Finsupp.add_apply] at h
  omega

/-- A staging semaphore's wait is below all that is owed at launch. -/
theorem mayWait_stage (c : Dev nD) (q : DmaSem sig) (hq : q.val < 4) :
    (levAts L lv : sProp 𝕄) ⊢ MayWait (c : Thread nD τ) (.dma q) () (O₀ c) := by
  refine mayWait_of c _ _ 0 ?_ fun g u h => ?_
  · unfold lv
    rw [dec_other]
    · exact Nat.le_refl 0
    · rintro ⟨c', _ | ⟨k, s⟩⟩ h
      · have h2 : (SemLoc.reg barS : SemLoc sig) = .dma q := congrArg (fun g : GSem nD τ sig => g.2) h
        cases h2
      · have h2 : (SemLoc.dma (dsem k s) : SemLoc sig) = .dma q := congrArg (fun g : GSem nD τ sig => g.2) h
        have := congrArg Fin.val (SemLoc.dma.inj h2)
        rw [dsem_val] at this
        omega
  · rcases add_pos_cases h with h | h
    · rcases add_pos_cases h with h | h
      · obtain ⟨r, rfl⟩ := owed_pos (fun r => (peer c r, some (3, c))) NQ h; exact ⟨_, rfl, by show 0 < 3; decide⟩
      · obtain ⟨r, rfl⟩ := owed_pos (fun r => (peer c r, some (1, c))) NA h; exact ⟨_, rfl, by show 0 < 2; decide⟩
    · obtain ⟨r, rfl⟩ := owed_pos (fun r => (peer c r, none)) 1 h; exact ⟨_, rfl, by show 0 < 1; decide⟩

/-- The barrier's wait, owing the copies; -/
theorem mayWait_bar (c : Dev nD) :
    (levAts L lv : sProp 𝕄) ⊢ MayWait (c : Thread nD τ) (.reg barS) () (owed (gQ c) ranks + owed (gA c) ranks) := by
  refine mayWait_of c _ _ 1 (by rw [show ((c : Thread nD τ), SemLoc.reg barS) = kcell (c, none) from rfl, lv_kcell]; exact Nat.le_refl 1) fun g u h => ?_
  rcases add_pos_cases h with h | h
  · obtain ⟨r, rfl⟩ := owed_pos (fun r => (peer c r, some (3, c))) NQ h; exact ⟨_, rfl, by show 1 < 3; decide⟩
  · obtain ⟨r, rfl⟩ := owed_pos (fun r => (peer c r, some (1, c))) NA h; exact ⟨_, rfl, by show 1 < 2; decide⟩

/-- and a tile's arrival, owing the panels' copies. -/
theorem mayWait_tile (c : Dev nD) (s : Fin 32) :
    (levAts L lv : sProp 𝕄) ⊢ MayWait (c : Thread nD τ) (.dma (dsem 1 s)) () (owed (gQ c) ranks) := by
  refine mayWait_of c _ _ 2 (by rw [show ((c : Thread nD τ), SemLoc.dma (dsem 1 s)) = kcell (c, some (1, s)) from rfl, lv_kcell]; exact Nat.le_refl 2) fun g u h => ?_
  obtain ⟨r, rfl⟩ := owed_pos (fun r => (peer c r, some (3, c))) NQ h
  exact ⟨_, rfl, by show 2 < 3; decide⟩

end Cert.KernelIdeal.Comm
-- ==== Proof.Steps.lean ====
module

public import proofs.«01_k».proof.Proof.Proto

/-! # The exchange's steps

Each step of the exchange, once, at any device and any rank: what it takes and what it leaves. A loop
runs a step over a list. -/

@[expose] public section

set_option maxRecDepth 16384

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs a program. -/
abbrev run (c : Dev nD) {α : Type} (p : Prog (Eff F) α) (Q : α → sProp 𝕄) : sProp 𝕄 :=
  wp frame (wpE (defs₀ (F := F)) 𝒱₀ (c : Thread nD τ) none) Set.univ p Q

/-- A loop: a step that takes its share `A` and leaves `B` takes all the shares and leaves all that is left. -/
theorem each_wp {α : Type} (c : Dev nD) (P : sProp 𝕄) [BI.Persistent P] (S : List α → sProp 𝕄) (A B : α → sProp 𝕄)
    (f : α → Prog (Eff F) PUnit)
    (h : ∀ a l (k : PUnit → Prog (Eff F) PUnit) (Q : PUnit → sProp 𝕄),
      iprop(P ∗ S (a :: l) ∗ A a ∗ ((S l ∗ B a) -∗ run c (k ⟨⟩) Q)) ⊢ run c (f a >>= k) Q) :
    ∀ l (k : PUnit → Prog (Eff F) PUnit) (Q : PUnit → sProp 𝕄),
      iprop(P ∗ S l ∗ bigSepL l A ∗ ((S [] ∗ bigSepL l B) -∗ run c (k ⟨⟩) Q)) ⊢ run c (each f l >>= k) Q
  | [], k, Q => by
    show _ ⊢ run c (k ⟨⟩) Q
    iintro ⟨-, HS, HA, Hk⟩
    iapply Hk
    isplitl [HS]; · iexact HS
    iexact HA
  | a :: l, k, Q => by
    rw [bigSepL_cons', bigSepL_cons', show each f (a :: l) >>= k = f a >>= fun _ => (each f l >>= k) from bind_assoc _ _ _]
    iintro ⟨#HP, HS, ⟨HA, HAs⟩, Hk⟩
    iapply (h a l _ Q)
    isplitr; · iexact HP
    isplitl [HS]; · iexact HS
    isplitl [HA]; · iexact HA
    iintro ⟨HS, HB⟩
    iapply (each_wp c P S A B f h l k Q)
    isplitr; · iexact HP
    isplitl [HS]; · iexact HS
    isplitl [HAs]; · iexact HAs
    iintro ⟨HS, HBs⟩
    iapply Hk
    isplitl [HS]; · iexact HS
    isplitl [HB]; · iexact HB
    iexact HBs

/-! ## The records -/

/-- The invariants of every device's cells, under the names `κs`, and that every cell has reached its round. -/
def recs (κs : Dev nD × Own → ℕ) : sProp 𝕄 :=
  iprop((bigSep Finset.univ fun k : Dev nD × Own => cellInv ER (Rd m) (κs k) (kcell k))
    ∗ bigSep Finset.univ fun k : Dev nD × Own => reached ER (kcell k) 0)

instance recs_persistent (κs : Dev nD × Own → ℕ) : BI.Persistent (recs m κs) := by unfold recs; infer_instance

theorem inv_of (κs : Dev nD × Own → ℕ) (k : Dev nD × Own) : recs m κs ⊢ cellInv ER (Rd m) (κs k) (kcell k) := by
  unfold recs
  iintro ⟨H, -⟩
  iapply (show (bigSep Finset.univ fun k : Dev nD × Own => (cellInv ER (Rd m) (κs k) (kcell k) : sProp 𝕄)) ⊢ cellInv ER (Rd m) (κs k) (kcell k)
    from bigSep_elim (Finset.mem_univ k)); iexact H
theorem reach_of (κs : Dev nD × Own → ℕ) (k : Dev nD × Own) : recs m κs ⊢ reached ER (kcell k) 0 := by
  unfold recs
  iintro ⟨-, H⟩
  iapply (show (bigSep Finset.univ fun k : Dev nD × Own => (reached ER (kcell k) 0 : sProp 𝕄)) ⊢ reached ER (kcell k) 0
    from bigSep_elim (Finset.mem_univ k)); iexact H

/-- A device owes `O`. -/
def ow (c : Dev nD) (O : Tally) : sProp 𝕄 := iprop(∃ W : Waits sig Unit, owes (c : Thread nD τ) O W)

variable (κs : Dev nD × Own → ℕ) (c : Dev nD) {i : grid0.Coords} (h : k0_cond1 i = 1#1)

/-! ## The handshake -/

theorem wp_tell (O : Tally) (r : Fin 31) (l : List (Fin 31)) (k : PUnit → Prog (Eff F) PUnit) (Q : PUnit → sProp 𝕄) :
    iprop(recs m κs ∗ ow c (O + owed (gB c) (r :: l))
        ∗ (dutyTok ER (kcell (peer c r, none)) 0 c ∗ (∃ f, ptA c (peer c r) f) ∗ ∃ f, ptR c (peer c r) f)
        ∗ ((ow c (O + owed (gB c) l) ∗ emp) -∗ run c (k ⟨⟩) Q))
      ⊢ run c (tell c r >>= k) Q := by
  unfold tell run ow
  simp only [semSignalWord, Prog.lift, Prog.bind_op, Prog.bind_ret]
  iintro ⟨#HR, ⟨%W, HO⟩, ⟨Ht, HA, HQ⟩, Hk⟩
  iapply (Rounds.wp_signal 𝒱₀ ER (Rd m) (c : Thread nD τ) none (dst := (peer c r : Thread nD τ)) (sem := barS)
      (κ := κs (peer c r, none)) (r := 0) (d := c)
      (by rw [show ((peer c r : Thread nD τ), SemLoc.reg barS) = kcell (peer c r, none) from rfl, duties_eq]
          exact Finset.mem_erase.mpr ⟨(peer_ne c r).symm, Finset.mem_univ _⟩)
      ((amount_eq m (peer c r, none) c).trans (by show 1 = _; decide)) () (O + owed (gB c) l)
      (by rw [add_assoc])) $$ [HO Ht HA HQ]
  · isplitr; · iapply (inv_of m κs (peer c r, none)); iexact HR
    isplitl [HO]; · iexact HO
    isplitl [Ht]; · iexact Ht
    isplitl [HA HQ]
    · rw [show ((peer c r : Thread nD τ), SemLoc.reg barS) = kcell (peer c r, none) from rfl, payload_eq]
      iapply (show iprop((∃ f, ptA c (peer c r) f) ∗ ∃ f, ptR c (peer c r) f) ⊢ payOf m (peer c r, none) c from BI.Entails.refl _)
      isplitl [HA] <;> iassumption
    · iapply (reach_of m κs (peer c r, none)); iexact HR
  iintro HO
  iapply Hk
  isplitl [HO]
  · iexists W; iexact HO
  · iempintro

theorem wp_await (k : PUnit → Prog (Eff F) PUnit) (Q : PUnit → sProp 𝕄) :
    iprop(recs m κs ∗ levAts L lv ∗ ow c (owed (gQ c) ranks + owed (gA c) ranks)
        ∗ cred (tallyAt (kcell (c, none)) () 31) ∗ atPos ER (kcell (c, none)) 0 ∅ 0
        ∗ ((ow c (owed (gQ c) ranks + owed (gA c) ranks) ∗ atPos ER (kcell (c, none)) 1 ∅ 0
            ∗ bigSepL ranks fun r => iprop((∃ f, ptA (peer c r) c f) ∗ ∃ f, ptR (peer c r) c f)) -∗ run c (k ⟨⟩) Q))
      ⊢ run c ((semWaitWord (SemArray.scalar (sig.barrier 0 rfl) : Sems sig S_).sem 31#32 : Prog (Eff F) PUnit) >>= k) Q := by
  unfold run ow
  simp only [semWaitWord, Prog.lift, Prog.bind_op, Prog.bind_ret]
  iintro ⟨#HR, #HL, ⟨%W, HO⟩, Hc, Hat, Hk⟩
  iapply (Rounds.wp_wait_rest_token 𝒱₀ ER (Rd m) (c : Thread nD τ) none (κ := κs (c, none)) (sm := .reg barS)
      (wpE_semWait_eq 𝒱₀ (c : Thread nD τ) none Set.univ) (Set.mem_univ _) () (R := 0) (m := 0) (T := ∅) (W := W)
      (O := owed (gQ c) ranks + owed (gA c) ranks)
      (by rw [show ((c : Thread nD τ), SemLoc.reg barS) = kcell (c, none) from rfl, expect_eq]
          show _ = (Finset.univ.erase c).card * 1
          rw [Finset.card_erase_of_mem (Finset.mem_univ _)]; rfl)) $$ [Hc HO Hat]
  · isplitr; · iapply (inv_of m κs (c, none)); iexact HR
    isplitl [Hc]; · iexact Hc
    isplitl [HO]; · iexact HO
    isplitr; · iapply (mayWait_bar c); iexact HL
    iexact Hat
  iintro ⟨HO, Hat, -, Hp⟩
  ihave Hp := (Entails.of_eq ((rest_eq m (c, none)).trans (bigSep_others c (payOf m (c, none))))) $$ Hp
  iapply Hk
  isplitl [HO]; · iexists _; iexact HO
  isplitl [Hat]; · iexact Hat
  iexact Hp

/-! ## The tiles -/

theorem wp_sendMax (O : Tally) (r : Fin 31) (l : List (Fin 31)) (k : PUnit → Prog (Eff F) PUnit) (Q : PUnit → sProp 𝕄) :
    iprop(recs m κs ∗ ow c (O + owed (gA c) (r :: l))
        ∗ (dutyTok ER (kcell (c, some (0, r.succ))) 0 c ∗ dutyTok ER (kcell (peer c r, some (1, c))) 0 c
            ∗ ptS m c r.succ ∗ ∃ f, ptA (peer c r) c f)
        ∗ ((ow c (O + owed (gA c) l) ∗ cred (tallyAt (kcell (c, some (0, r.succ))) () NA)) -∗ run c (k ⟨⟩) Q))
      ⊢ run c (sendMax i c h r >>= k) Q := by
  unfold sendMax run ow
  simp only [Prog.lift, Prog.bind_op, Prog.bind_ret]
  have key : ∀ (o : Fin 3 → Nat) (ho : ∀ a, o a + S1x8x128.size a ≤ S32x8x128.size a) (eo : o = ![c.val, 0, 0])
      (o' : Fin 1 → Nat) (ho' : ∀ a, o' a + S1.size a ≤ S32.size a) (eo' : o' = ![c.val]) hx hy hz,
      iprop(recs m κs ∗ (∃ W : Waits sig Unit, owes (c : Thread nD τ) (O + owed (gA c) (r :: l)) W)
        ∗ (dutyTok ER (kcell (c, some (0, r.succ))) 0 c ∗ dutyTok ER (kcell (peer c r, some (1, c))) 0 c
            ∗ ptS m c r.succ ∗ ∃ f, ptA (peer c r) c f)
        ∗ (((∃ W : Waits sig Unit, owes (c : Thread nD τ) (O + owed (gA c) l) W) ∗ cred (tallyAt (kcell (c, some (0, r.succ))) () NA)) -∗ run c (k ⟨⟩) Q))
      ⊢ run c (.op (.enqueueDma asRef (.remote (Dev.tc (peer c r)) (arSlot o ho) (.dma (semAt cc0_scratch5 ![r.val + 1] (rank_inb r))))
          (.dma (semAt cc0_scratch6 o' ho')) hx hy hz) k) Q := by
    intro o ho eo o' ho' eo' hx hy hz
    subst eo eo'
    iintro ⟨#HR, ⟨%W, HO⟩, ⟨Ht₁, Ht₂, HS, ⟨%f, HA⟩⟩, Hk⟩
    unfold ptS ptA
    iapply (Rounds.wp_send_pointsTo 𝒱₀ ER (Rd m) (c : Thread nD τ) none (c' := (peer c r : Thread nD τ))
      (src := asRef) (dst := slotA c) (sS := .dma (dsem 0 r.succ)) (sem := .dma (dsem 1 c))
      (κ₁ := κs (c, some (0, r.succ))) (κ₂ := κs (peer c r, some (1, c))) (r₁ := 0) (r₂ := 0) (d₁ := c) (d₂ := c) (fd := f)
      (by rw [show ((c : Thread nD τ), SemLoc.dma (dsem 0 r.succ)) = kcell (c, some (0, r.succ)) from rfl, duties_eq, duties_leave c 0 rfl]
          exact Finset.mem_singleton_self _)
      (by rw [show ((peer c r : Thread nD τ), SemLoc.dma (dsem 1 c)) = kcell (peer c r, some (1, c)) from rfl, duties_eq,
            duties_arrive (peer c r) 1 (by decide) c (peer_ne c r).symm]
          exact Finset.mem_singleton_self _)
      () () NA rfl (amount_eq m (c, some (0, r.succ)) c) (amount_eq m (peer c r, some (1, c)) c) (O + owed (gA c) l)
      (by rw [add_assoc]) (W := W)
      (by rw [show ((c : Thread nD τ), SemLoc.dma (dsem 0 r.succ)) = kcell (c, some (0, r.succ)) from rfl, payload_eq]
          exact BI.Entails.refl _)
      (by rw [show ((peer c r : Thread nD τ), SemLoc.dma (dsem 1 c)) = kcell (peer c r, some (1, c)) from rfl, payload_eq]
          exact Entails.of_eq (pointsTo_congr (copy_A m c f)))) $$ [HO Ht₁ Ht₂ HS HA]
    · isplitr; · iapply (inv_of m κs (c, some (0, r.succ))); iexact HR
      isplitr; · iapply (inv_of m κs (peer c r, some (1, c))); iexact HR
      isplitl [HS]; · iexact HS
      isplitl [HA]; · iexact HA
      isplitl [HO]; · iexact HO
      isplitl [Ht₁]; · iexact Ht₁
      isplitr; · iapply (reach_of m κs (c, some (0, r.succ))); iexact HR
      isplitl [Ht₂]; · iexact Ht₂
      iapply (reach_of m κs (peer c r, some (1, c))); iexact HR
    iintro ⟨Hc, HO⟩
    iapply Hk
    isplitl [HO]; · iexists W; iexact HO
    iexact Hc
  exact key _ _ (k0_off4_eq c) _ _ (k0_off3_eq c) _ _ _

end Cert.KernelIdeal.Comm
-- ==== Proof.Steps2.lean ====
module

public import proofs.«01_k».proof.Proof.Steps

/-! # The exchange's steps, continued: arrivals, quantisation, the output rows -/

@[expose] public section

set_option maxRecDepth 16384

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)
variable (κs : Dev nD × Own → ℕ) (c : Dev nD) {i : grid0.Coords} (h : k0_cond1 i = 1#1)

/-! ## A wait for one copy -/

/-- A wait on a semaphore one copy counts on takes what the copy hands over. -/
theorem wp_wait_one (q : Fin 4) (s : Fin 32) (d : Dev nD) (hd : dutiesOf (c, some (q, s)) = {d}) (O : Tally)
    (w : TpuEff nD τ sig (Elt F) Λ₀ .tc PUnit) (N : ℕ) (hN : N = amountOf (c, some (q, s)))
    (hw : ∀ K : PUnit → sProp 𝕄, wpE (defs₀ (F := F)) 𝒱₀ (c : Thread nD τ) none Set.univ w K
      = waitSpec (c : Thread nD τ) Set.univ (.dma (dsem q s)) N K)
    (k : PUnit → Prog (Eff F) PUnit) (Q : PUnit → sProp 𝕄) :
    iprop(recs m κs ∗ MayWait (c : Thread nD τ) (.dma (dsem q s)) () O ∗ ow c O
        ∗ cred (tallyAt (kcell (c, some (q, s))) () N) ∗ atPos ER (kcell (c, some (q, s))) 0 ∅ 0
        ∗ ((ow c O ∗ atPos ER (kcell (c, some (q, s))) 1 ∅ 0 ∗ payOf m (c, some (q, s)) d) -∗ run c (k ⟨⟩) Q))
      ⊢ run c (.op w k) Q := by
  unfold run ow
  iintro ⟨#HR, HM, ⟨%W, HO⟩, Hc, Hat, Hk⟩
  iapply (Rounds.wp_wait_rest_token 𝒱₀ ER (Rd m) (c : Thread nD τ) none (κ := κs (c, some (q, s))) (sm := .dma (dsem q s))
      hw (Set.mem_univ _) () (R := 0) (m := 0) (T := ∅) (W := W) (O := O)
      (by rw [show ((c : Thread nD τ), SemLoc.dma (dsem q s)) = kcell (c, some (q, s)) from rfl, expect_eq, hd, Finset.card_singleton, Nat.one_mul,
            Nat.zero_add, hN])) $$ [Hc HO Hat HM]
  · isplitr; · iapply (inv_of m κs (c, some (q, s))); iexact HR
    isplitl [Hc]; · iexact Hc
    isplitl [HO]; · iexact HO
    isplitl [HM]; · iexact HM
    iexact Hat
  iintro ⟨HO, Hat, -, Hp⟩
  ihave Hp := (Entails.of_eq ((rest_eq m (c, some (q, s))).trans (by rw [hd, bigSep_singleton] : bigSep (dutiesOf (c, some (q, s))) (payOf m (c, some (q, s))) = payOf m (c, some (q, s)) d))) $$ Hp
  iapply Hk
  isplitl [HO]; · iexists _; iexact HO
  isplitl [Hat]; · iexact Hat
  iexact Hp

theorem off5_back (r : Fin 31) : k0_off5 c (BitVec.ofNat 32 (1 + r.val)) = ![(back c r).val] := k0_off5_eq c r
theorem off6_back (r : Fin 31) : k0_off6 c (BitVec.ofNat 32 (1 + r.val)) = ![(back c r).val, 0, 0] := k0_off6_eq c r
theorem off8_peer (r : Fin 31) : k0_off8 c (BitVec.ofNat 32 (1 + r.val)) = ![(peer c r).val, 0, 0] := by
  rw [k0_off8_eq c r, peer_val, Nat.add_right_comm]
theorem off12_back (r : Fin 31) : k0_off12 c (BitVec.ofNat 32 (1 + r.val)) = ![(back c r).val, 0, 0] := k0_off12_eq c r
theorem off13_back (r : Fin 31) : k0_off13 c (BitVec.ofNat 32 (1 + r.val)) = ![128 * (back c r).val, 0] := k0_off13_eq c r

theorem wait_tile (s : Fin 32) (ho : ∀ a, (![s.val] : Fin 1 → Nat) a + S1.size a ≤ S32.size a) (o' : Fin 3 → Nat)
    (ho' : ∀ a, o' a + S1x8x128.size a ≤ S32x8x128.size a) hx hy (K : PUnit → sProp 𝕄) :
    wpE (defs₀ (F := F)) 𝒱₀ (c : Thread nD τ) none Set.univ (.waitDma2 (semAt cc0_scratch6 ![s.val] ho) asRef (arSlot o' ho') hx hy) K
      = waitSpec (c : Thread nD τ) Set.univ (.dma (dsem 1 s)) NA K := by
  rw [wpE_waitDma2_eq]
  rfl

theorem wait_panel (s : Fin 32) (ho : ∀ a, (![s.val] : Fin 1 → Nat) a + S1.size a ≤ S32.size a) (o o' : Fin 3 → Nat)
    (hq : ∀ a, o a + S1x128x256.size a ≤ S32x128x256.size a)
    (ho' : ∀ a, o' a + S1x128x256.size a ≤ S32x128x256.size a) hx hy (K : PUnit → sProp 𝕄) :
    wpE (defs₀ (F := F)) 𝒱₀ (c : Thread nD τ) none Set.univ (.waitDma2 (semAt cc0_scratch8 ![s.val] ho) (qsSlot o hq) (qrSlot o' ho') hx hy) K
      = waitSpec (c : Thread nD τ) Set.univ (.dma (dsem 3 s)) NQ K := by
  rw [wpE_waitDma2_eq]
  rfl

theorem wp_takeMax (r : Fin 31) (l : List (Fin 31)) (k : PUnit → Prog (Eff F) PUnit) (Q : PUnit → sProp 𝕄) :
    iprop((recs m κs ∗ levAts L lv) ∗ ow c (owed (gQ c) ranks)
        ∗ (cred (tallyAt (kcell (c, some (1, back c r))) () NA) ∗ atPos ER (kcell (c, some (1, back c r))) 0 ∅ 0)
        ∗ ((ow c (owed (gQ c) ranks) ∗ (atPos ER (kcell (c, some (1, back c r))) 1 ∅ 0 ∗ ptA c (back c r) (AR m))) -∗ run c (k ⟨⟩) Q))
      ⊢ run c (takeMax i c h r >>= k) Q := by
  unfold takeMax
  simp only [Prog.lift, Prog.bind_op, Prog.bind_ret]
  have key : ∀ (o : Fin 1 → Nat) (ho : ∀ a, o a + S1.size a ≤ S32.size a) (eo : o = ![(back c r).val])
      (o' : Fin 3 → Nat) (ho' : ∀ a, o' a + S1x8x128.size a ≤ S32x8x128.size a) hx hy,
      iprop((recs m κs ∗ levAts L lv) ∗ ow c (owed (gQ c) ranks)
        ∗ (cred (tallyAt (kcell (c, some (1, back c r))) () NA) ∗ atPos ER (kcell (c, some (1, back c r))) 0 ∅ 0)
        ∗ ((ow c (owed (gQ c) ranks) ∗ (atPos ER (kcell (c, some (1, back c r))) 1 ∅ 0 ∗ ptA c (back c r) (AR m))) -∗ run c (k ⟨⟩) Q))
      ⊢ run c (.op (.waitDma2 (semAt cc0_scratch6 o ho) asRef (arSlot o' ho') hx hy) k) Q := by
    intro o ho eo o' ho' hx hy
    subst eo
    iintro ⟨⟨#HR, #HL⟩, HO, ⟨Hc, Hat⟩, Hk⟩
    iapply (wp_wait_one m κs c 1 (back c r) (back c r) (duties_arrive c 1 (by decide) _ (back_ne c r)) (owed (gQ c) ranks)
      _ NA rfl (wait_tile c (back c r) ho o' ho' hx hy) k Q)
    isplitr; · iexact HR
    isplitr; · iapply (mayWait_tile c (back c r)); iexact HL
    isplitl [HO]; · iexact HO
    isplitl [Hc]; · iexact Hc
    isplitl [Hat]; · iexact Hat
    iintro ⟨HO, Hat, Hp⟩
    ihave Hp := (show payOf m (c, some (1, back c r)) (back c r) ⊢ ptA c (back c r) (AR m) from BI.Entails.refl _) $$ Hp
    iapply Hk
    isplitl [HO]; · iexact HO
    isplitl [Hat]; · iexact Hat
    iexact Hp
  exact key _ _ (off5_back c r) _ _ _ _

/-! ## Quantisation -/

/-- The block, and the panels quantised except those of `l`. -/
def quantInv (l : List (Fin 32)) : sProp 𝕄 :=
  iprop((((c : Thread nD τ).loc cc0_scratch0) ↦{fullShare} Y m c)
    ∗ ∃ f : Vec F S32x128x256 .i8, ⌜∀ j : S32x128x256.Idx, (j 0 : Fin 32) ∉ l → f j = QS m c j⌝ ∗ (((c : Thread nD τ).loc cc0_scratch1) ↦{fullShare} f))

theorem wp_quantPanel (p : Fin 32) (l : List (Fin 32)) (k : PUnit → Prog (Eff F) PUnit) (Q : PUnit → sProp 𝕄) :
    iprop(emp ∗ quantInv m c (p :: l) ∗ emp ∗ ((quantInv m c l ∗ emp) -∗ run c (k ⟨⟩) Q))
      ⊢ run c (quantPanel (scale m) p >>= k) Q := by
  unfold quantPanel quantInv run
  simp only [Prog.lift, Prog.bind_op, Prog.bind_ret]
  iintro ⟨-, ⟨HY, ⟨%f, %hf, HQ⟩⟩, -, Hk⟩
  iapply (wp_load 𝒱₀ (c : Thread nD τ) none Set.univ (m := yRef) (r := (rectY p).toLoadRect) (Finset.subset_univ _)) $$ HY
  iintro HY
  rw [read_Y]
  iapply (wp_load 𝒱₀ (c : Thread nD τ) none Set.univ (m := qsRef) (r := (rectQ p).toLoadRect) (Finset.subset_univ _)) $$ HQ
  iintro HQ
  iapply (wp_store 𝒱₀ (c : Thread nD τ) none Set.univ (m := qsRef) (r := rectQ p) (Mk := Finset.univ) (Finset.subset_univ _)) $$ HQ
  iintro HQ
  iapply Hk
  isplitl
  · isplitl [HY]; · iexact HY
    iexists _
    isplitr; · ipureintro; exact write_Q m c p l f hf
    iexact HQ
  · iempintro

/-! ## Panels leaving -/

theorem wp_sendPanel (r : Fin 31) (l : List (Fin 31)) (k : PUnit → Prog (Eff F) PUnit) (Q : PUnit → sProp 𝕄) :
    iprop(recs m κs ∗ ow c (owed (gQ c) (r :: l))
        ∗ (dutyTok ER (kcell (c, some (2, r.succ))) 0 c ∗ dutyTok ER (kcell (peer c r, some (3, c))) 0 c
            ∗ ptQ c (peer c r) (QS m c) ∗ ∃ f, ptR (peer c r) c f)
        ∗ ((ow c (owed (gQ c) l) ∗ cred (tallyAt (kcell (c, some (2, r.succ))) () NQ)) -∗ run c (k ⟨⟩) Q))
      ⊢ run c (sendPanel i c h r >>= k) Q := by
  unfold sendPanel run ow
  simp only [Prog.lift, Prog.bind_op, Prog.bind_ret]
  have key : ∀ (o : Fin 3 → Nat) (ho : ∀ a, o a + S1x128x256.size a ≤ S32x128x256.size a) (eo : o = ![c.val, 0, 0])
      (o' : Fin 1 → Nat) (ho' : ∀ a, o' a + S1.size a ≤ S32.size a) (eo' : o' = ![c.val])
      (u : Fin 3 → Nat) (hu : ∀ a, u a + S1x128x256.size a ≤ S32x128x256.size a) (eu : u = ![(peer c r).val, 0, 0]) hx hy hz,
      iprop(recs m κs ∗ (∃ W : Waits sig Unit, owes (c : Thread nD τ) (owed (gQ c) (r :: l)) W)
        ∗ (dutyTok ER (kcell (c, some (2, r.succ))) 0 c ∗ dutyTok ER (kcell (peer c r, some (3, c))) 0 c
            ∗ ptQ c (peer c r) (QS m c) ∗ ∃ f, ptR (peer c r) c f)
        ∗ (((∃ W : Waits sig Unit, owes (c : Thread nD τ) (owed (gQ c) l) W) ∗ cred (tallyAt (kcell (c, some (2, r.succ))) () NQ)) -∗ run c (k ⟨⟩) Q))
      ⊢ run c (.op (.enqueueDma (qsSlot u hu) (.remote (Dev.tc (peer c r)) (qrSlot o ho) (.dma (semAt cc0_scratch7 ![r.val + 1] (rank_inb r))))
          (.dma (semAt cc0_scratch8 o' ho')) hx hy hz) k) Q := by
    intro o ho eo o' ho' eo' u hu eu hx hy hz
    subst eo eo' eu
    iintro ⟨#HR, ⟨%W, HO⟩, ⟨Ht₁, Ht₂, HS, ⟨%f, HA⟩⟩, Hk⟩
    unfold ptQ ptR
    iapply (Rounds.wp_send_pointsTo 𝒱₀ ER (Rd m) (c : Thread nD τ) none (c' := (peer c r : Thread nD τ))
      (src := slotQ (peer c r)) (dst := slotR c) (sS := .dma (dsem 2 r.succ)) (sem := .dma (dsem 3 c))
      (κ₁ := κs (c, some (2, r.succ))) (κ₂ := κs (peer c r, some (3, c))) (r₁ := 0) (r₂ := 0) (d₁ := c) (d₂ := c) (fd := f)
      (by rw [show ((c : Thread nD τ), SemLoc.dma (dsem 2 r.succ)) = kcell (c, some (2, r.succ)) from rfl, duties_eq, duties_leave c 2 rfl]
          exact Finset.mem_singleton_self _)
      (by rw [show ((peer c r : Thread nD τ), SemLoc.dma (dsem 3 c)) = kcell (peer c r, some (3, c)) from rfl, duties_eq,
            duties_arrive (peer c r) 3 (by decide) c (peer_ne c r).symm]
          exact Finset.mem_singleton_self _)
      () () NQ rfl (amount_eq m (c, some (2, r.succ)) c) (amount_eq m (peer c r, some (3, c)) c) (owed (gQ c) l)
      rfl (W := W)
      (by rw [show ((c : Thread nD τ), SemLoc.dma (dsem 2 r.succ)) = kcell (c, some (2, r.succ)) from rfl, payload_eq]
          show _ ⊢ ptQ c (peer c (rankOf r.succ)) (QS m c)
          rw [rankOf_succ]
          exact BI.Entails.refl _)
      (by rw [show ((peer c r : Thread nD τ), SemLoc.dma (dsem 3 c)) = kcell (peer c r, some (3, c)) from rfl, payload_eq]
          exact Entails.of_eq (pointsTo_congr (copy_Q m c (peer c r) f)))) $$ [HO Ht₁ Ht₂ HS HA]
    · isplitr; · iapply (inv_of m κs (c, some (2, r.succ))); iexact HR
      isplitr; · iapply (inv_of m κs (peer c r, some (3, c))); iexact HR
      isplitl [HS]; · iexact HS
      isplitl [HA]; · iexact HA
      isplitl [HO]; · iexact HO
      isplitl [Ht₁]; · iexact Ht₁
      isplitr; · iapply (reach_of m κs (c, some (2, r.succ))); iexact HR
      isplitl [Ht₂]; · iexact Ht₂
      iapply (reach_of m κs (peer c r, some (3, c))); iexact HR
    iintro ⟨Hc, HO⟩
    iapply Hk
    isplitl [HO]; · iexists W; iexact HO
    iexact Hc
  exact key _ _ (k0_off7_eq c) _ _ (k0_off3_eq c) _ _ (off8_peer c r) _ _ _

/-! ## The output rows -/

abbrev outRef : Memref sig .tc .vmem S4096x256 .f32 := Memref.whole cc0_stg2_0

/-- The output window, the rows in place except those of the sources `r + 1` places back for `r` in `l`. -/
def outInv (l : List (Fin 31)) : sProp 𝕄 :=
  iprop(∃ f : Vec F S4096x256 .f32, ⌜∀ j, (∀ r ∈ l, sourceOf j ≠ back c r) → f j = OUT m c j⌝ ∗ (((c : Thread nD τ).loc cc0_stg2_0) ↦{fullShare} f))

theorem back_surj (s : Dev nD) (hs : s ≠ c) : ∃ r ∈ ranks, back c r = s := by
  have h1 : c.val < 32 := c.isLt
  have h2 : s.val < 32 := s.isLt
  have h3 : s.val ≠ c.val := fun e => hs (Fin.ext e)
  refine ⟨⟨(c.val + 31 - s.val) % 32, by omega⟩, ?_, Fin.ext ?_⟩
  · exact List.mem_toFinset.mp (ranks_univ ▸ Finset.mem_univ _)
  · rw [back_val]; show (c.val + 31 - (c.val + 31 - s.val) % 32) % 32 = s.val; omega

theorem sub_slotQ (s : Fin 32) : qsRef.view.setOn (rectQ s).toLoadRect.set ⊆ (slotQ s).view.set := by
  rw [set_slotQ]
  intro x hx
  obtain ⟨y, hy, rfl⟩ := Finset.mem_map.mp hx
  exact hy
theorem sub_slotR (s : Fin 32) : qrRef.view.setOn (rectQ s).toLoadRect.set ⊆ (slotR s).view.set := by
  rw [set_slotR]
  intro x hx
  obtain ⟨y, hy, rfl⟩ := Finset.mem_map.mp hx
  exact hy
theorem sub_slotA (s : Fin 32) : arRef.view.setOn (rectA s).toLoadRect.set ⊆ (slotA s).view.set := by
  rw [set_slotA]
  intro x hx
  obtain ⟨y, hy, rfl⟩ := Finset.mem_map.mp hx
  exact hy

theorem wp_ownRows (k : PUnit → Prog (Eff F) PUnit) (Q : PUnit → sProp 𝕄) :
    iprop(ptQ c c (QS m c) ∗ (∃ f : Vec F S4096x256 .f32, (((c : Thread nD τ).loc cc0_stg2_0) ↦{fullShare} f))
        ∗ ((ptQ c c (QS m c) ∗ outInv m c ranks) -∗ run c (k ⟨⟩) Q))
      ⊢ run c (ownRows i c h outRef (scale m) >>= k) Q := by
  unfold ownRows
  simp only [Prog.lift, Prog.bind_op, Prog.bind_ret]
  have key : ∀ (o : Fin 3 → Nat) (ho : ∀ a, o a + S1x128x256.size a ≤ S32x128x256.size a) (eo : o = ![c.val, 0, 0])
      (u : Fin 2 → Nat) (hu : ∀ a, u a + S128x256.size a ≤ S4096x256.size a) (eu : u = ![128 * c.val, 0]) hx hy hz hw,
      iprop(ptQ c c (QS m c) ∗ (∃ f : Vec F S4096x256 .f32, (((c : Thread nD τ).loc cc0_stg2_0) ↦{fullShare} f))
        ∗ ((ptQ c c (QS m c) ∗ outInv m c ranks) -∗ run c (k ⟨⟩) Q))
      ⊢ run c (.op (.load qsRef (Rect.unit (s := S32x128x256) o S1x128x256.size ho).toLoadRect hx) fun v =>
          .op (.load outRef (Rect.unit (s := S4096x256) u S128x256.size hu).toLoadRect hy) fun _ =>
          .op (.store outRef (Rect.unit (s := S4096x256) u S128x256.size hu) (k0_pay49 (scale m) v) Finset.univ hz hw) k) Q := by
    intro o ho eo u hu eu hx hy hz hw
    subst eo eu
    unfold ptQ run
    iintro ⟨HQ, ⟨%f, HO⟩, Hk⟩
    iapply (wp_load 𝒱₀ (c : Thread nD τ) none Set.univ (m := qsRef) (r := (rectQ c).toLoadRect) (sub_slotQ c)) $$ HQ
    iintro HQ
    rw [read_own]
    iapply (wp_load 𝒱₀ (c : Thread nD τ) none Set.univ (m := outRef) (r := (rectO c).toLoadRect) (Finset.subset_univ _)) $$ HO
    iintro HO
    iapply (wp_store 𝒱₀ (c : Thread nD τ) none Set.univ (m := outRef) (r := rectO c) (Mk := Finset.univ) (Finset.subset_univ _)) $$ HO
    iintro HO
    iapply Hk
    isplitl [HQ]; · iexact HQ
    unfold outInv
    iexists _
    isplitr
    · ipureintro
      exact fun j hj => write_O m c c (fun _ => False) (fun a => ∀ r ∈ ranks, a ≠ back c r)
        (fun a ha => by
          by_contra hn
          obtain ⟨r, hr, e⟩ := back_surj c a (fun e => hn (Or.inl e))
          exact ha r hr e.symm) f (fun _ hF => hF.elim) j hj
    iexact HO
  exact key _ _ (k0_off9_eq c) _ _ (k0_off10_eq c) _ _ _ _

theorem wp_takePanel (r : Fin 31) (l : List (Fin 31)) (k : PUnit → Prog (Eff F) PUnit) (Q : PUnit → sProp 𝕄) :
    iprop(recs m κs ∗ (ow c 0 ∗ outInv m c (r :: l))
        ∗ (cred (tallyAt (kcell (c, some (3, back c r))) () NQ) ∗ atPos ER (kcell (c, some (3, back c r))) 0 ∅ 0)
        ∗ (((ow c 0 ∗ outInv m c l) ∗ (atPos ER (kcell (c, some (3, back c r))) 1 ∅ 0 ∗ ptR c (back c r) (QR m c))) -∗ run c (k ⟨⟩) Q))
      ⊢ run c (takePanel i c h outRef (scale m) r >>= k) Q := by
  unfold takePanel
  simp only [Prog.lift, Prog.bind_op, Prog.bind_ret]
  have key : ∀ (o : Fin 1 → Nat) (ho : ∀ a, o a + S1.size a ≤ S32.size a) (eo : o = ![(back c r).val])
      (o' : Fin 3 → Nat) (ho' : ∀ a, o' a + S1x128x256.size a ≤ S32x128x256.size a)
      (p : Fin 3 → Nat) (hp : ∀ a, p a + S1x128x256.size a ≤ S32x128x256.size a) (ep : p = ![(back c r).val, 0, 0])
      (u : Fin 2 → Nat) (hu : ∀ a, u a + S128x256.size a ≤ S4096x256.size a) (eu : u = ![128 * (back c r).val, 0]) ha hb hx hy hz hw,
      iprop(recs m κs ∗ (ow c 0 ∗ outInv m c (r :: l))
        ∗ (cred (tallyAt (kcell (c, some (3, back c r))) () NQ) ∗ atPos ER (kcell (c, some (3, back c r))) 0 ∅ 0)
        ∗ (((ow c 0 ∗ outInv m c l) ∗ (atPos ER (kcell (c, some (3, back c r))) 1 ∅ 0 ∗ ptR c (back c r) (QR m c))) -∗ run c (k ⟨⟩) Q))
      ⊢ run c (.op (.waitDma2 (semAt cc0_scratch8 o ho) (qsSlot ![0, 0, 0] inb_S32x128x256_S1x128x256_0_0_0) (qrSlot o' ho') ha hb) fun _ =>
          .op (.load qrRef (Rect.unit (s := S32x128x256) p S1x128x256.size hp).toLoadRect hx) fun v =>
          .op (.load outRef (Rect.unit (s := S4096x256) u S128x256.size hu).toLoadRect hy) fun _ =>
          .op (.store outRef (Rect.unit (s := S4096x256) u S128x256.size hu) (k0_pay49 (scale m) v) Finset.univ hz hw) k) Q := by
    intro o ho eo o' ho' p hp ep u hu eu ha hb hx hy hz hw
    subst eo ep eu
    iintro ⟨#HR, ⟨HO, Hout⟩, ⟨Hc, Hat⟩, Hk⟩
    iapply (wp_wait_one m κs c 3 (back c r) (back c r) (duties_arrive c 3 (by decide) _ (back_ne c r)) 0
      _ NQ rfl (wait_panel c (back c r) ho _ o' _ ho' ha hb) _ Q)
    isplitr; · iexact HR
    isplitr; · rw [MayWait_zero]; iempintro
    isplitl [HO]; · iexact HO
    isplitl [Hc]; · iexact Hc
    isplitl [Hat]; · iexact Hat
    iintro ⟨HO, Hat, HR'⟩
    ihave HR' := (show payOf m (c, some (3, back c r)) (back c r) ⊢ ptR c (back c r) (QR m c) from BI.Entails.refl _) $$ HR'
    unfold ptR run outInv
    icases Hout with ⟨%f, %hf, Hout⟩
    iapply (wp_load 𝒱₀ (c : Thread nD τ) none Set.univ (m := qrRef) (r := (rectQ (back c r)).toLoadRect) (sub_slotR (back c r))) $$ HR'
    iintro HR'
    rw [read_part]
    iapply (wp_load 𝒱₀ (c : Thread nD τ) none Set.univ (m := outRef) (r := (rectO (back c r)).toLoadRect) (Finset.subset_univ _)) $$ Hout
    iintro Hout
    iapply (wp_store 𝒱₀ (c : Thread nD τ) none Set.univ (m := outRef) (r := rectO (back c r)) (Mk := Finset.univ) (Finset.subset_univ _)) $$ Hout
    iintro Hout
    iapply Hk
    isplitl [HO Hout]
    · isplitl [HO]; · iexact HO
      iexists _
      isplitr
      · ipureintro
        exact write_O m c (back c r) (fun a => ∀ r' ∈ r :: l, a ≠ back c r') (fun a => ∀ r' ∈ l, a ≠ back c r')
          (fun a ha => by
            by_cases e : a = back c r
            · exact Or.inl e
            · refine Or.inr fun r' hr' => ?_
              rcases List.mem_cons.mp hr' with rfl | hm
              · exact e
              · exact ha r' hm) f hf
      iexact Hout
    isplitl [Hat]; · iexact Hat
    iexact HR'
  exact key _ _ (off5_back c r) _ _ _ _ (off12_back c r) _ _ (off13_back c r) _ _ _ _ _ _

theorem wp_settle (r : Fin 31) (l : List (Fin 31)) (k : PUnit → Prog (Eff F) PUnit) (Q : PUnit → sProp 𝕄) :
    iprop(recs m κs ∗ ow c 0
        ∗ ((cred (tallyAt (kcell (c, some (0, r.succ))) () NA) ∗ atPos ER (kcell (c, some (0, r.succ))) 0 ∅ 0)
            ∗ (cred (tallyAt (kcell (c, some (2, r.succ))) () NQ) ∗ atPos ER (kcell (c, some (2, r.succ))) 0 ∅ 0))
        ∗ ((ow c 0 ∗ (atPos ER (kcell (c, some (0, r.succ))) 1 ∅ 0 ∗ ptS m c r.succ)
            ∗ (atPos ER (kcell (c, some (2, r.succ))) 1 ∅ 0 ∗ ptQ c (peer c r) (QS m c))) -∗ run c (k ⟨⟩) Q))
      ⊢ run c (settle i c h r >>= k) Q := by
  unfold settle
  simp only [Prog.lift, Prog.bind_op, Prog.bind_ret]
  iintro ⟨#HR, HO, ⟨⟨Hc, Hat⟩, Hc', Hat'⟩, Hk⟩
  iapply (wp_wait_one m κs c 0 r.succ c (duties_leave c 0 rfl r) 0
    _ NA rfl (wpE_waitDma2_eq 𝒱₀ (c : Thread nD τ) none Set.univ) _ Q)
  isplitr; · iexact HR
  isplitr; · rw [MayWait_zero]; iempintro
  isplitl [HO]; · iexact HO
  isplitl [Hc]; · iexact Hc
  isplitl [Hat]; · iexact Hat
  iintro ⟨HO, Hat, HS⟩
  ihave HS := (show payOf m (c, some (0, r.succ)) c ⊢ ptS m c r.succ from BI.Entails.refl _) $$ HS
  iapply (wp_wait_one m κs c 2 r.succ c (duties_leave c 2 rfl r) 0
    _ NQ rfl (wpE_waitDma2_eq 𝒱₀ (c : Thread nD τ) none Set.univ) _ Q)
  isplitr; · iexact HR
  isplitr; · rw [MayWait_zero]; iempintro
  isplitl [HO]; · iexact HO
  isplitl [Hc']; · iexact Hc'
  isplitl [Hat']; · iexact Hat'
  iintro ⟨HO, Hat', HQ⟩
  ihave HQ := (show payOf m (c, some (2, r.succ)) c ⊢ ptQ c (peer c r) (QS m c) from by
    show ptQ c (peer c (rankOf r.succ)) (QS m c) ⊢ _
    rw [rankOf_succ]) $$ HQ
  iapply Hk
  isplitl [HO]; · iexact HO
  isplitl [Hat HS]
  · isplitl [Hat]; · iexact Hat
    iexact HS
  isplitl [Hat']; · iexact Hat'
  iexact HQ

theorem wp_ownMax (k : PUnit → Prog (Eff F) PUnit) (Q : PUnit → sProp 𝕄) :
    iprop((((c : Thread nD τ).loc cc0_scratch0) ↦{fullShare} Y m c)
        ∗ (∃ f : Vec F S8x128 .f32, (((c : Thread nD τ).loc cc0_scratch3) ↦{fullShare} f)) ∗ (∃ f, ptA c c f)
        ∗ (((((c : Thread nD τ).loc cc0_scratch0) ↦{fullShare} Y m c) ∗ (((c : Thread nD τ).loc cc0_scratch3) ↦{fullShare} tile m c)
            ∗ ptA c c (AR m)) -∗ run c (k ⟨⟩) Q))
      ⊢ run c (ownMax i c h >>= k) Q := by
  unfold ownMax
  simp only [Prog.lift, Prog.bind_op, Prog.bind_ret]
  have key : ∀ (o : Fin 3 → Nat) (ho : ∀ a, o a + S1x8x128.size a ≤ S32x8x128.size a) (eo : o = ![c.val, 0, 0]) ha hb hx hy hz hv hw,
      iprop((((c : Thread nD τ).loc cc0_scratch0) ↦{fullShare} Y m c)
        ∗ (∃ f : Vec F S8x128 .f32, (((c : Thread nD τ).loc cc0_scratch3) ↦{fullShare} f)) ∗ (∃ f, ptA c c f)
        ∗ (((((c : Thread nD τ).loc cc0_scratch0) ↦{fullShare} Y m c) ∗ (((c : Thread nD τ).loc cc0_scratch3) ↦{fullShare} tile m c)
            ∗ ptA c c (AR m)) -∗ run c (k ⟨⟩) Q))
      ⊢ run c (.op (.load yRef (Rect.unit (s := S128x8192) ![0, 0] S128x8192.size inb_S128x8192_S128x8192_0_0).toLoadRect ha) fun v =>
          .op (.load asRef (Rect.unit (s := S8x128) ![0, 0] S8x128.size inb_S8x128_S8x128_0_0).toLoadRect hb) fun _ =>
          .op (.store asRef (Rect.unit (s := S8x128) ![0, 0] S8x128.size inb_S8x128_S8x128_0_0) (k0_pay3 v) Finset.univ hx hy) fun _ =>
          .op (.load arRef (Rect.unit (s := S32x8x128) o S1x8x128.size ho).toLoadRect hz) fun _ =>
          .op (.store arRef (Rect.unit (s := S32x8x128) o S1x8x128.size ho) (k0_pay4 v) Finset.univ hv hw) k) Q := by
    intro o ho eo ha hb hx hy hz hv hw
    subst eo
    unfold ptA run
    iintro ⟨HY, ⟨%f, HS⟩, ⟨%g, HA⟩, Hk⟩
    iapply (wp_load 𝒱₀ (c : Thread nD τ) none Set.univ (m := yRef) (Finset.subset_univ _)) $$ HY
    iintro HY
    rw [read_Y_all]
    iapply (wp_load 𝒱₀ (c : Thread nD τ) none Set.univ (m := asRef) (Finset.subset_univ _)) $$ HS
    iintro HS
    iapply (wp_store 𝒱₀ (c : Thread nD τ) none Set.univ (m := asRef)
      (r := Rect.unit (s := S8x128) ![0, 0] S8x128.size inb_S8x128_S8x128_0_0) (Mk := Finset.univ) (Finset.subset_univ _)) $$ HS
    iintro HS
    rw [write_as]
    iapply (wp_load 𝒱₀ (c : Thread nD τ) none Set.univ (m := arRef) (r := (rectA c).toLoadRect) (sub_slotA c)) $$ HA
    iintro HA
    iapply (wp_store 𝒱₀ (c : Thread nD τ) none Set.univ (m := arRef) (r := rectA c) (Mk := Finset.univ)
      (by rw [View.setOn_univ, set_slotA]; exact (View.set_slice_whole cc0_scratch4 (rectA c)).subset)) $$ HA
    iintro HA
    iapply Hk
    isplitl [HY]; · iexact HY
    isplitl [HS]; · iexact HS
    iapply (Entails.of_eq (pointsTo_congr (fun j hj => write_ownA m c g j (by rw [← set_slotA]; exact hj)))) $$ HA
  exact key _ _ (k0_off2_eq c) _ _ _ _ _ _ _

end Cert.KernelIdeal.Comm
-- ==== Proof.Exchange.lean ====
module

public import proofs.«01_k».proof.Proof.Steps2

/-! # The exchange

The steps put together: buffers cut into slots and put back, the loops one after another, and every
semaphore's round over at the end. -/

@[expose] public section

set_option maxRecDepth 16384

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

section Sums

variable {M : Type} [URA M]

/-- A device's semaphores one by one: the barrier and the arrays. -/
theorem bigSep_own (Φ : Own → sProp M) :
    bigSep Finset.univ Φ = iprop(Φ none ∗ bigSep Finset.univ fun k : Fin 4 => bigSep Finset.univ fun s : Fin 32 => Φ (some (k, s))) := by
  have hu : (Finset.univ : Finset Own) = insert none (Finset.univ.map Function.Embedding.some) := by
    ext x; cases x <;> simp
  rw [hu, bigSep_insert (by simp), bigSep_map, bigSep_univ_prod]
  rfl

theorem bigSep_four (Φ : Fin 4 → sProp M) : bigSep Finset.univ Φ = iprop(Φ 0 ∗ Φ 1 ∗ Φ 2 ∗ Φ 3) := by
  rw [bigSep_univ_eq_bigSepL [0, 1, 2, 3] (by decide) (by decide)]
  rfl

/-- The same, each array's slots by rank and the unused slot apart. -/
theorem own_split (c : Dev nD) (Φ : Own → sProp M) :
    bigSep Finset.univ Φ = iprop(Φ none ∗ (Φ (some (0, 0)) ∗ bigSepL ranks fun r => Φ (some (0, r.succ)))
      ∗ (Φ (some (1, c)) ∗ bigSepL ranks fun r => Φ (some (1, back c r)))
      ∗ (Φ (some (2, 0)) ∗ bigSepL ranks fun r => Φ (some (2, r.succ)))
      ∗ (Φ (some (3, c)) ∗ bigSepL ranks fun r => Φ (some (3, back c r)))) := by
  rw [bigSep_own, bigSep_four, bigSep_succ fun s => Φ (some (0, s)), bigSep_back c fun s => Φ (some (1, s)),
    bigSep_succ fun s => Φ (some (2, s)), bigSep_back c fun s => Φ (some (3, s))]

/-- A fact that stays gives each of many. -/
theorem bigSep_all {I : Type} (S : Finset I) {P : sProp M} [BI.Persistent P] {Φ : I → sProp M} (h : ∀ k, P ⊢ Φ k) : P ⊢ bigSep S Φ := by
  classical
  induction S using Finset.induction_on with
  | empty => rw [bigSep_empty]; iintro -; iempintro
  | insert a s ha ih =>
    rw [show bigSep (insert a s) Φ = iprop(Φ a ∗ bigSep s Φ) from bigSep_insert ha]
    iintro #H
    isplitr
    · iapply (h a); iexact H
    · iapply ih; iexact H

/-- Each of many weakened. -/
theorem bigSep_weaken {I : Type} (S : Finset I) {Φ Ψ : I → sProp M} (h : ∀ k, Φ k ⊢ Ψ k) : bigSep S Φ ⊢ bigSep S Ψ :=
  bigSep_mono fun k _ => h k

theorem bigSepL_emp {I : Type} (l : List I) : (iprop(emp) : sProp M) ⊢ bigSepL l fun _ => iprop(emp) := by
  induction l with
  | nil => exact BI.Entails.refl _
  | cons a l ih =>
    rw [bigSepL_cons']
    iintro -
    isplitr
    · iempintro
    · iapply ih; iempintro

theorem bigSepL_of {l : List (Fin 31)} {Φ Ψ : Fin 31 → sProp M} (h : ∀ r, Φ r = Ψ r) : bigSepL l Φ = bigSepL l Ψ := by
  rw [funext h]

end Sums

variable {F : FTy → Type} [FloatOps F]

local notation "𝕄" => MT nD τ sig Unit (Elt F) ℕ UU ℕ

variable (m : (ℓ : Loc nD τ sig) → Buf (Elt F) ℓ)
variable (κs : Dev nD × Own → ℕ) (c : Dev nD) {i : grid0.Coords} (h : k0_cond1 i = 1#1)

/-! ## Buffers and slots -/

theorem slots_A (f : Vec F S32x8x128 .f32) :
    ((((c : Thread nD τ).loc cc0_scratch4) ↦{fullShare} f) : sProp 𝕄) = bigSep Finset.univ fun s : Fin 32 => ptA c s f := by
  rw [Ring.pointsTo_blocks (ℓ := (c : Thread nD τ).loc cc0_scratch4) (fun s : Fin 32 => (rectA s).set) rectA_disjoint rectA_cover f]
  exact bigSep_congr fun s _ => by unfold ptA; rw [set_slotA]
theorem slots_Q (f : Vec F S32x128x256 .i8) :
    ((((c : Thread nD τ).loc cc0_scratch1) ↦{fullShare} f) : sProp 𝕄) = bigSep Finset.univ fun s : Fin 32 => ptQ c s f := by
  rw [Ring.pointsTo_blocks (ℓ := (c : Thread nD τ).loc cc0_scratch1) (fun s : Fin 32 => (rectQ s).set) rectQ_disjoint rectQ_cover f]
  exact bigSep_congr fun s _ => by unfold ptQ; rw [set_slotQ]
theorem slots_R (f : Vec F S32x128x256 .i8) :
    ((((c : Thread nD τ).loc cc0_scratch2) ↦{fullShare} f) : sProp 𝕄) = bigSep Finset.univ fun s : Fin 32 => ptR c s f := by
  rw [Ring.pointsTo_blocks (ℓ := (c : Thread nD τ).loc cc0_scratch2) (fun s : Fin 32 => (rectQ s).set) rectQ_disjoint rectQ_cover f]
  exact bigSep_congr fun s _ => by unfold ptR; rw [set_slotR]

theorem join_R (f₀ : Vec F S32x128x256 .i8) : (bigSep Finset.univ fun s : Fin 32 => (iprop(∃ f, ptR c s f) : sProp 𝕄))
    ⊢ iprop(∃ f : Vec F S32x128x256 .i8, (((c : Thread nD τ).loc cc0_scratch2) ↦{fullShare} f)) := by
  have e := Ring.pointsTo_blocks_join_exists (nD := nD) (τ := τ) (sig := sig) (Ix := Unit) (Val := Elt F) (Name := ℕ) (U := UU) (Lvl := ℕ)
    (ℓ := (c : Thread nD τ).loc cc0_scratch2) (fun s : Fin 32 => (rectQ s).set) rectQ_disjoint rectQ_cover (q := fullShare) f₀
  refine BIBase.Entails.trans (Entails.of_eq (bigSep_congr fun s _ => ?_)) e
  unfold ptR; rw [set_slotR]; rfl

theorem shares_S : ((((c : Thread nD τ).loc cc0_scratch3) ↦{fullShare} tile m c) : sProp 𝕄) = bigSep Finset.univ fun s : Fin 32 => ptS m c s := by
  have e := ShareLeaves.pointsTo_leaves (nD := nD) (τ := τ) (sig := sig) (Ix := Unit) (Val := Elt F) (Name := ℕ) (U := UU) (Lvl := ℕ)
    (ℓ := (c : Thread nD τ).loc cc0_scratch3) Finset.univ (tile m c) 5 fullShare
  refine e.trans (bigSep_congr fun s _ => ?_)
  unfold ptS
  rw [show (asRef).view.set = Finset.univ from View.set_whole cc0_scratch3]

/-! ## The resources of the exchange -/

/-- The right to pay: for each peer its barrier's unit, and both ends of the two copies sent to it. -/
def toks : sProp 𝕄 :=
  iprop((bigSepL ranks fun r => dutyTok ER (kcell (peer c r, none)) 0 c)
    ∗ (bigSepL ranks fun r => dutyTok ER (kcell (c, some (0, r.succ))) 0 c)
    ∗ (bigSepL ranks fun r => dutyTok ER (kcell (peer c r, some (1, c))) 0 c)
    ∗ (bigSepL ranks fun r => dutyTok ER (kcell (c, some (2, r.succ))) 0 c)
    ∗ (bigSepL ranks fun r => dutyTok ER (kcell (peer c r, some (3, c))) 0 c))

/-- What the peers owe the device. -/
def due : sProp 𝕄 :=
  iprop(cred (tallyAt (kcell (c, none)) () 31)
    ∗ (bigSepL ranks fun r => cred (tallyAt (kcell (c, some (1, back c r))) () NA))
    ∗ (bigSepL ranks fun r => cred (tallyAt (kcell (c, some (3, back c r))) () NQ)))

/-- The round a semaphore is at when the exchange is over. -/
def endOf : Own → ℕ
  | none => 1
  | some (k, s) => if k.val % 2 = 0 then (if s = 0 then 0 else 1) else (if s = c then 0 else 1)

theorem end_leave (k : Fin 4) (hk : k.val % 2 = 0) (r : Fin 31) : endOf c (some (k, r.succ)) = 1 := by
  show (if k.val % 2 = 0 then (if r.succ = 0 then 0 else 1) else _) = 1
  rw [if_pos hk, if_neg (Fin.succ_ne_zero r)]
theorem end_arrive (k : Fin 4) (hk : k.val % 2 ≠ 0) (r : Fin 31) : endOf c (some (k, back c r)) = 1 := by
  show (if k.val % 2 = 0 then _ else (if back c r = c then 0 else 1)) = 1
  rw [if_neg hk, if_neg (back_ne c r)]
theorem end_own (k : Fin 4) (hk : k.val % 2 ≠ 0) : endOf c (some (k, c)) = 0 := by
  show (if k.val % 2 = 0 then _ else (if c = c then 0 else 1)) = 0
  rw [if_neg hk, if_pos rfl]

theorem end_zero (k : Fin 4) (hk : k.val % 2 = 0) : endOf c (some (k, 0)) = 0 := by
  show (if k.val % 2 = 0 then (if (0 : Fin 32) = 0 then 0 else 1) else _) = 0
  rw [if_pos hk, if_pos rfl]

theorem end_duties (k : Own) (r : ℕ) (hr : endOf c k ≤ r) : (Rd (F := F) m).duties (kcell (c, k)) r = ∅ := by
  rcases Nat.eq_zero_or_pos r with rfl | h1
  · rw [duties_eq]
    rcases k with _ | ⟨k, s⟩
    · exact absurd hr (by show ¬ 1 ≤ 0; decide)
    · unfold endOf at hr
      show (if k.val % 2 = 0 then (if s = 0 then ∅ else {c}) else (if s = c then ∅ else {s})) = ∅
      dsimp only at hr
      split at hr <;> split at hr <;> simp_all
  · exact duties_later m _ r h1

/-- Every semaphore of the device at its last round closes at zero. -/
theorem close_all : iprop(recs m κs ∗ bigSep Finset.univ fun k : Own => atPos ER (kcell (c, k)) (endOf c k) ∅ 0)
    ⊢ (|={Set.univ}=> bigSep Finset.univ fun k : Own => semVal (kcell (c, k)) 0 : sProp 𝕄) := by
  have hc := Rounds.cells_close (Ix := Unit) (Name := ℕ) (Lvl := ℕ) ER (Rd m) (Finset.univ : Finset Own) (fun k => kcell (c, k)) (fun k => κs (c, k))
    (Es := Set.univ) (fun _ _ => Set.mem_univ _) (fun _ _ h => h) (endOf c) (fun k _ r hr => end_duties m c k r hr)
  iintro ⟨#HR, H⟩
  iapply hc
  irw [bigSep_sep']
  isplitr
  · iapply (show recs m κs ⊢ bigSep Finset.univ fun k : Own => cellInv ER (Rd m) (κs (c, k)) (kcell (c, k)) from
      bigSep_all _ fun k => inv_of m κs (c, k))
    iexact HR
  · iexact H

theorem wp_settles (k : PUnit → Prog (Eff F) PUnit) (Q : PUnit → sProp 𝕄) :
    iprop(recs m κs ∗ ow c 0
        ∗ (bigSepL ranks fun r => iprop((cred (tallyAt (kcell (c, some (0, r.succ))) () NA) ∗ atPos ER (kcell (c, some (0, r.succ))) 0 ∅ 0)
            ∗ (cred (tallyAt (kcell (c, some (2, r.succ))) () NQ) ∗ atPos ER (kcell (c, some (2, r.succ))) 0 ∅ 0)))
        ∗ ((ow c 0 ∗ bigSepL ranks fun r => iprop((atPos ER (kcell (c, some (0, r.succ))) 1 ∅ 0 ∗ ptS m c r.succ)
            ∗ (atPos ER (kcell (c, some (2, r.succ))) 1 ∅ 0 ∗ ptQ c (peer c r) (QS m c)))) -∗ run c (k ⟨⟩) Q))
      ⊢ run c (each (settle i c h) ranks >>= k) Q :=
  each_wp c (recs m κs) (fun _ => ow c 0) _ _ (settle i c h) (fun r l k Q => wp_settle m κs c h r l k Q) ranks k Q

set_option maxHeartbeats 400000 in
/-- The exchange: from the block in full and the other buffers at anything, all semaphores fresh and all payments
    outstanding, to the output window in full, every buffer back, every semaphore at zero and nothing owed. -/
theorem wp_comm (k : PUnit → Prog (Eff F) PUnit) (Q : PUnit → sProp 𝕄) :
    iprop(recs m κs ∗ levAts L lv ∗ ow c (O₀ c) ∗ toks c ∗ due c ∗ (bigSep Finset.univ fun k : Own => atPos ER (kcell (c, k)) 0 ∅ 0)
        ∗ (((c : Thread nD τ).loc cc0_scratch0) ↦{fullShare} Y m c)
        ∗ (∃ f : Vec F S32x128x256 .i8, (((c : Thread nD τ).loc cc0_scratch1) ↦{fullShare} f))
        ∗ (∃ f : Vec F S32x128x256 .i8, (((c : Thread nD τ).loc cc0_scratch2) ↦{fullShare} f))
        ∗ (∃ f : Vec F S8x128 .f32, (((c : Thread nD τ).loc cc0_scratch3) ↦{fullShare} f))
        ∗ (∃ f : Vec F S32x8x128 .f32, (((c : Thread nD τ).loc cc0_scratch4) ↦{fullShare} f))
        ∗ (∃ f : Vec F S4096x256 .f32, (((c : Thread nD τ).loc cc0_stg2_0) ↦{fullShare} f))
        ∗ ((ow c 0 ∗ (bigSep Finset.univ fun k : Own => semVal (kcell (c, k)) 0)
            ∗ (((c : Thread nD τ).loc cc0_scratch0) ↦{fullShare} Y m c)
            ∗ (∃ f : Vec F S32x128x256 .i8, (((c : Thread nD τ).loc cc0_scratch1) ↦{fullShare} f))
            ∗ (∃ f : Vec F S32x128x256 .i8, (((c : Thread nD τ).loc cc0_scratch2) ↦{fullShare} f))
            ∗ (∃ f : Vec F S8x128 .f32, (((c : Thread nD τ).loc cc0_scratch3) ↦{fullShare} f))
            ∗ (∃ f : Vec F S32x8x128 .f32, (((c : Thread nD τ).loc cc0_scratch4) ↦{fullShare} f))
            ∗ (((c : Thread nD τ).loc cc0_stg2_0) ↦{fullShare} OUT m c)) -∗ run c (k ⟨⟩) Q))
      ⊢ run c (comm i c h outRef >>= k) Q := by
  unfold comm
  simp only [bind_assoc]
  iintro ⟨#HR, #HL, HO, Htok, Hdue, Hat, HY, HQ, ⟨%fr, Hr⟩, HS, ⟨%fa, HA⟩, Hout, Hk⟩
  unfold toks due
  icases Htok with ⟨TB, TA0, TA1, TQ2, TQ3⟩
  icases Hdue with ⟨DB, DA, DQ⟩
  ihave Hat := (Entails.of_eq (own_split c fun k : Own => (atPos ER (kcell (c, k)) 0 ∅ 0 : sProp 𝕄))) $$ Hat
  icases Hat with ⟨PB, ⟨P00, P0⟩, ⟨P1c, P1⟩, ⟨P20, P2⟩, P3c, P3⟩
  -- the arrival buffers slot by slot
  ihave HA := (show ((((c : Thread nD τ).loc cc0_scratch4) ↦{fullShare} fa) : sProp 𝕄) ⊢ bigSep Finset.univ fun s : Fin 32 => iprop(∃ f, ptA c s f) from by
    rw [slots_A]; exact bigSep_weaken _ fun s => by iintro H; iexists fa; iexact H) $$ HA
  ihave HA := (Entails.of_eq (bigSep_peer c fun s => (iprop(∃ f, ptA c s f) : sProp 𝕄))) $$ HA
  icases HA with ⟨HAc, HA⟩
  ihave Hr := (show ((((c : Thread nD τ).loc cc0_scratch2) ↦{fullShare} fr) : sProp 𝕄) ⊢ bigSep Finset.univ fun s : Fin 32 => iprop(∃ f, ptR c s f) from by
    rw [slots_R]; exact bigSep_weaken _ fun s => by iintro H; iexists fr; iexact H) $$ Hr
  ihave Hr := (Entails.of_eq (bigSep_peer c fun s => (iprop(∃ f, ptR c s f) : sProp 𝕄))) $$ Hr
  icases Hr with ⟨Hrc, Hr⟩
  -- the block's largest entry
  iapply (wp_ownMax m c h _ Q)
  isplitl [HY]; · iexact HY
  isplitl [HS]; · iexact HS
  isplitl [HAc]; · iexact HAc
  iintro ⟨HY, HS, HAc⟩
  ihave HS := (Entails.of_eq ((shares_S m c).trans (bigSep_succ fun s => ptS m c s))) $$ HS
  icases HS with ⟨HS0, HS⟩
  -- the handshake
  iapply (each_wp c (recs m κs) (fun l => ow c ((owed (gQ c) ranks + owed (gA c) ranks) + owed (gB c) l))
    (fun r => iprop(dutyTok ER (kcell (peer c r, none)) 0 c ∗ (∃ f, ptA c (peer c r) f) ∗ ∃ f, ptR c (peer c r) f)) (fun _ => iprop(emp))
    (tell c) (fun r l k Q => wp_tell m κs c _ r l k Q) ranks _ Q)
  isplitr; · iexact HR
  isplitl [HO]; · unfold O₀; iexact HO
  isplitl [TB HA Hr]
  · irw [bigSepL_sep', bigSepL_sep']
    isplitl [TB]; · iexact TB
    isplitl [HA]; · iexact HA
    iexact Hr
  iintro ⟨HO, -⟩
  ihave HO := (show ow c ((owed (gQ c) ranks + owed (gA c) ranks) + owed (gB c) []) ⊢ (ow c (owed (gQ c) ranks + owed (gA c) ranks) : sProp 𝕄) from by
    unfold owed; rw [add_zero]) $$ HO
  iapply (wp_await m κs c _ Q)
  isplitr; · iexact HR
  isplitr; · iexact HL
  isplitl [HO]; · iexact HO
  isplitl [DB]; · iexact DB
  isplitl [PB]; · iexact PB
  iintro ⟨HO, PB, HG⟩
  ihave HG := (Entails.of_eq (bigSepL_sep' ranks (fun r => (iprop(∃ f, ptA (peer c r) c f) : sProp 𝕄)) fun r => iprop(∃ f, ptR (peer c r) c f))) $$ HG
  icases HG with ⟨GA, GR⟩
  -- the tiles go out
  iapply (each_wp c (recs m κs) (fun l => ow c (owed (gQ c) ranks + owed (gA c) l))
    (fun r => iprop(dutyTok ER (kcell (c, some (0, r.succ))) 0 c ∗ dutyTok ER (kcell (peer c r, some (1, c))) 0 c
            ∗ ptS m c r.succ ∗ ∃ f, ptA (peer c r) c f)) (fun r => cred (tallyAt (kcell (c, some (0, r.succ))) () NA))
    (sendMax i c h) (fun r l k Q => wp_sendMax m κs c h _ r l k Q) ranks _ Q)
  isplitr; · iexact HR
  isplitl [HO]; · iexact HO
  isplitl [TA0 TA1 HS GA]
  · irw [bigSepL_sep', bigSepL_sep', bigSepL_sep']
    isplitl [TA0]; · iexact TA0
    isplitl [TA1]; · iexact TA1
    isplitl [HS]; · iexact HS
    iexact GA
  iintro ⟨HO, C0⟩
  ihave HO := (show ow c (owed (gQ c) ranks + owed (gA c) []) ⊢ (ow c (owed (gQ c) ranks) : sProp 𝕄) from by
    unfold owed; rw [add_zero]) $$ HO
  -- the tiles come in
  iapply (each_wp c iprop(recs m κs ∗ levAts L lv) (fun _ => ow c (owed (gQ c) ranks))
    (fun r => iprop(cred (tallyAt (kcell (c, some (1, back c r))) () NA) ∗ atPos ER (kcell (c, some (1, back c r))) 0 ∅ 0))
    (fun r => iprop(atPos ER (kcell (c, some (1, back c r))) 1 ∅ 0 ∗ ptA c (back c r) (AR m)))
    (takeMax i c h) (fun r l k Q => wp_takeMax m κs c h r l k Q) ranks _ Q)
  isplitr
  · isplitr; · iexact HR
    iexact HL
  isplitl [HO]; · iexact HO
  isplitl [DA P1]
  · irw [bigSepL_sep']
    isplitl [DA]; · iexact DA
    iexact P1
  iintro ⟨HO, H1⟩
  ihave H1 := (Entails.of_eq (bigSepL_sep' ranks (fun r => (atPos ER (kcell (c, some (1, back c r))) 1 ∅ 0 : sProp 𝕄)) fun r => ptA c (back c r) (AR m))) $$ H1
  icases H1 with ⟨P1, HA⟩
  ihave HA := (show iprop(ptA c c (AR m) ∗ bigSepL ranks fun r => ptA c (back c r) (AR m)) ⊢ ((((c : Thread nD τ).loc cc0_scratch4) ↦{fullShare} AR m) : sProp 𝕄) from by
    rw [slots_A, bigSep_back c]) $$ [HAc HA]
  · isplitl [HAc] <;> iassumption
  -- the scale
  simp only [Prog.lift, Prog.bind_op, Prog.bind_ret]
  unfold run
  iapply (wp_load 𝒱₀ (c : Thread nD τ) none Set.univ (m := arRef) (Finset.subset_univ _)) $$ HA
  iintro HA
  rw [read_AR]
  rw [show k0_pay5 (AR m) = scale m from rfl]
  -- the panels quantised
  iapply (each_wp c iprop(emp) (quantInv m c) (fun _ => iprop(emp)) (fun _ => iprop(emp))
    (quantPanel (scale m)) (fun p l k Q => wp_quantPanel m c p l k Q) panels _ Q)
  isplitr; · iempintro
  isplitl [HY HQ]
  · unfold quantInv
    isplitl [HY]; · iexact HY
    icases HQ with ⟨%fq, HQ⟩
    iexists fq
    isplitr
    · ipureintro
      exact fun j hj => absurd (List.mem_toFinset.mp (panels_univ ▸ Finset.mem_univ (j 0 : Fin 32))) hj
    iexact HQ
  isplitr
  · iapply (bigSepL_emp panels); iempintro
  iintro ⟨HYQ, -⟩
  unfold quantInv
  icases HYQ with ⟨HY, ⟨%fq, %hfq, HQ⟩⟩
  have hfq' : fq = QS m c := funext fun j => hfq j (List.not_mem_nil)
  subst hfq'
  ihave HQ := (Entails.of_eq ((slots_Q c (QS m c)).trans (bigSep_peer c fun s => ptQ c s (QS m c)))) $$ HQ
  icases HQ with ⟨HQc, HQ⟩
  -- the panels go out
  iapply (each_wp c (recs m κs) (fun l => ow c (owed (gQ c) l))
    (fun r => iprop(dutyTok ER (kcell (c, some (2, r.succ))) 0 c ∗ dutyTok ER (kcell (peer c r, some (3, c))) 0 c
            ∗ ptQ c (peer c r) (QS m c) ∗ ∃ f, ptR (peer c r) c f)) (fun r => cred (tallyAt (kcell (c, some (2, r.succ))) () NQ))
    (sendPanel i c h) (fun r l k Q => wp_sendPanel m κs c h r l k Q) ranks _ Q)
  isplitr; · iexact HR
  isplitl [HO]; · iexact HO
  isplitl [TQ2 TQ3 HQ GR]
  · irw [bigSepL_sep', bigSepL_sep', bigSepL_sep']
    isplitl [TQ2]; · iexact TQ2
    isplitl [TQ3]; · iexact TQ3
    isplitl [HQ]; · iexact HQ
    iexact GR
  iintro ⟨HO, C2⟩
  -- the output rows
  iapply (wp_ownRows m c h _ Q)
  isplitl [HQc]; · iexact HQc
  isplitl [Hout]; · iexact Hout
  iintro ⟨HQc, Hout⟩
  iapply (each_wp c (recs m κs) (fun l => iprop(ow c 0 ∗ outInv m c l))
    (fun r => iprop(cred (tallyAt (kcell (c, some (3, back c r))) () NQ) ∗ atPos ER (kcell (c, some (3, back c r))) 0 ∅ 0))
    (fun r => iprop(atPos ER (kcell (c, some (3, back c r))) 1 ∅ 0 ∗ ptR c (back c r) (QR m c)))
    (takePanel i c h outRef (scale m)) (fun r l k Q => wp_takePanel m κs c h r l k Q) ranks _ Q)
  isplitr; · iexact HR
  isplitl [HO Hout]
  · isplitl [HO]; · iapply (show ow c (owed (gQ c) []) ⊢ (ow c 0 : sProp 𝕄) from BI.Entails.refl _); iexact HO
    iexact Hout
  isplitl [DQ P3]
  · irw [bigSepL_sep']
    isplitl [DQ]; · iexact DQ
    iexact P3
  iintro ⟨⟨HO, Hout⟩, H3⟩
  ihave H3 := (Entails.of_eq (bigSepL_sep' ranks (fun r => (atPos ER (kcell (c, some (3, back c r))) 1 ∅ 0 : sProp 𝕄)) fun r => ptR c (back c r) (QR m c))) $$ H3
  icases H3 with ⟨P3, HR3⟩
  unfold outInv
  icases Hout with ⟨%fo, %hfo, Hout⟩
  have hfo' : fo = OUT m c := funext fun j => hfo j fun r hr => absurd hr List.not_mem_nil
  subst hfo'
  -- the copies sent are over
  iapply (wp_settles m κs c h k Q)
  isplitr; · iexact HR
  isplitl [HO]; · iexact HO
  isplitl [C0 C2 P0 P2]
  · irw [bigSepL_sep', bigSepL_sep', bigSepL_sep']
    isplitl [C0 P0]
    · isplitl [C0] <;> iassumption
    · isplitl [C2] <;> iassumption
  iintro ⟨HO, H⟩
  ihave H := (Entails.of_eq (bigSepL_sep' ranks (fun r => (iprop(atPos ER (kcell (c, some (0, r.succ))) 1 ∅ 0 ∗ ptS m c r.succ) : sProp 𝕄))
    fun r => iprop(atPos ER (kcell (c, some (2, r.succ))) 1 ∅ 0 ∗ ptQ c (peer c r) (QS m c)))) $$ H
  icases H with ⟨H0, H2⟩
  ihave H0 := (Entails.of_eq (bigSepL_sep' ranks (fun r => (atPos ER (kcell (c, some (0, r.succ))) 1 ∅ 0 : sProp 𝕄)) fun r => ptS m c r.succ)) $$ H0
  icases H0 with ⟨P0, HS⟩
  ihave H2 := (Entails.of_eq (bigSepL_sep' ranks (fun r => (atPos ER (kcell (c, some (2, r.succ))) 1 ∅ 0 : sProp 𝕄)) fun r => ptQ c (peer c r) (QS m c))) $$ H2
  icases H2 with ⟨P2, HQ⟩
  -- every semaphore closes
  imod (close_all m κs c) $$ [PB P00 P0 P1c P1 P20 P2 P3c P3] with HV
  · isplitr; · iexact HR
    irw [own_split c fun k : Own => (atPos ER (kcell (c, k)) (endOf c k) ∅ 0 : sProp 𝕄)]
    simp only [end_zero c 0 rfl, end_zero c 2 rfl, end_leave c 0 rfl, end_leave c 2 rfl, end_arrive c 1 (by decide), end_arrive c 3 (by decide), end_own c 1 (by decide), end_own c 3 (by decide)]
    isplitl [PB]; · iexact PB
    isplitl [P00 P0]
    · isplitl [P00] <;> iassumption
    isplitl [P1c P1]
    · isplitl [P1c] <;> iassumption
    isplitl [P20 P2]
    · isplitl [P20] <;> iassumption
    isplitl [P3c] <;> iassumption
  iapply Hk
  isplitl [HO]; · iexact HO
  isplitl [HV]; · iexact HV
  isplitl [HY]; · iexact HY
  isplitl [HQc HQ]
  · iexists (QS m c)
    irw [slots_Q, bigSep_peer c fun s => ptQ c s (QS m c)]
    isplitl [HQc] <;> iassumption
  isplitl [Hrc HR3]
  · iapply (join_R c (QR m c))
    irw [bigSep_back c fun s => (iprop(∃ f, ptR c s f) : sProp 𝕄)]
    isplitl [Hrc]; · iexact Hrc
    iapply (show (bigSepL ranks fun r => ptR c (back c r) (QR m c)) ⊢ (bigSepL ranks fun r => iprop(∃ f, ptR c (back c r) f) : sProp 𝕄) from
      bigSepL_mono fun r _ => by iintro H; iexists _; iexact H)
    iexact HR3
  isplitl [HS0 HS]
  · iexists (tile m c)
    irw [shares_S, bigSep_succ fun s => ptS m c s]
    isplitl [HS0] <;> iassumption
  isplitl [HA]; · iexists _; iexact HA
  iexact Hout

end Cert.KernelIdeal.Comm
-- ==== Proof.Body.lean ====
module

public import proofs.«01_k».proof.Proof.Exchange

/-! # The grid points

At every point the step's panel joins the block; at the last the exchange follows. -/

@[expose] public section

set_option maxRecDepth 16384

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-! ## Points and coordinates -/

theorem coord_eq : ∀ t : Fin grid0.N, (grid0.coords t 0).val = t.val := by decide +kernel
theorem cond_iff : ∀ t : Fin grid0.N, (k0_cond1 (grid0.coords t) = 1#1) = (t.val = 31) := by decide +kernel
theorem lt32 (t : Fin cfg0.N) : t.val < 32 := lt_of_lt_of_eq t.isLt N32

/-- A load of a memref whole reads it. -/
theorem read_full {s : Shape} {e : EltTy} (M : Memref sig .tc .vmem s e) (o : Fin s.rank → Nat) (ho : o = fun _ => 0)
    (inb : ∀ a, o a + s.size a ≤ s.size a) (f : BufTy.Contents (Elt F) M.view.ref.ty) :
    M.view.readAt (Elt F) (Rect.unit (s := s) o s.size inb).toLoadRect f = M.view.read (Elt F) f := by
  subst ho
  funext x
  show M.view.read (Elt F) f _ = _
  congr 1; funext a; apply Fin.ext
  show 0 + 1 * (x a).val = (x a).val
  omega

theorem two_zero : (![0, 0] : Fin 2 → Nat) = fun _ => 0 := funext fun a => by fin_cases a <;> rfl

/-! ## A point's own work -/

/-- The block, its panels below `n` in place. -/
def panelsTo (c : Dev nD) (n : ℕ) : sProp 𝕄 :=
  iprop(∃ f : Vec F S128x8192 .f32, ⌜∀ j, (panelOf j).val < n → f j = Y m c j⌝ ∗ (((c : Thread nD τ).loc cc0_scratch0) ↦{fullShare} f))

/-- A point's loads and its store, from the panel's offset on. -/
theorem wp_panel (c : Dev nD) (t : Fin cfg0.N) (M₁ : Memref sig .tc .vmem S128x4096 .f32) (M₂ : Memref sig .tc .vmem S4096x256 .f32)
    (Q : PUnit → sProp 𝕄) (o : Fin 2 → Nat) (ho : ∀ a, o a + S128x256.size a ≤ S128x8192.size a) (eo : o = ![0, 256 * t.val]) (ha hb hx hy hz)
    (k : PUnit → Prog (Eff F) PUnit) :
    iprop(owns (c : Thread nD τ) M₁ fullShare (iblk m c 0 t) ∗ owns (c : Thread nD τ) M₂ fullShare (iblk m c 1 t) ∗ panelsTo m c t.val
        ∗ ((owns (c : Thread nD τ) M₁ fullShare (iblk m c 0 t) ∗ owns (c : Thread nD τ) M₂ fullShare (iblk m c 1 t) ∗ panelsTo m c (t.val + 1))
          -∗ run c (k ⟨⟩) Q))
      ⊢ run c (.op (.load M₁ (Rect.unit (s := S128x4096) ![0, 0] S128x4096.size inb_S128x4096_S128x4096_0_0).toLoadRect ha) fun v =>
          .op (.load M₂ (Rect.unit (s := S4096x256) ![0, 0] S4096x256.size inb_S4096x256_S4096x256_0_0).toLoadRect hb) fun w =>
          .op (.load yRef (Rect.unit (s := S128x8192) o S128x256.size ho).toLoadRect hx) fun _ =>
          .op (.store yRef (Rect.unit (s := S128x8192) o S128x256.size ho) (k0_pay1 v w) Finset.univ hy hz) k) Q := by
  subst eo
  unfold run owns panelsTo
  iintro ⟨⟨%f₁, %h₁, H₁⟩, ⟨%f₂, %h₂, H₂⟩, ⟨%f, %hf, HY⟩, Hk⟩
  iapply (wp_load 𝒱₀ (c : Thread nD τ) none Set.univ (m := M₁) (View.setOn_subset_set _ _)) $$ H₁
  iintro H₁
  iapply (wp_load 𝒱₀ (c : Thread nD τ) none Set.univ (m := M₂) (View.setOn_subset_set _ _)) $$ H₂
  iintro H₂
  rw [read_full M₁ _ two_zero, read_full M₂ _ two_zero, h₁, h₂]
  iapply (wp_load 𝒱₀ (c : Thread nD τ) none Set.univ (m := yRef) (Finset.subset_univ _)) $$ HY
  iintro HY
  iapply (wp_store 𝒱₀ (c : Thread nD τ) none Set.univ (m := yRef) (r := rectY ⟨t.val, lt32 t⟩) (Mk := Finset.univ) (Finset.subset_univ _)) $$ HY
  iintro HY
  iapply Hk
  isplitl [H₁]
  · iexists f₁
    isplitr; · ipureintro; exact h₁
    iexact H₁
  isplitl [H₂]
  · iexists f₂
    isplitr; · ipureintro; exact h₂
    iexact H₂
  iexists _
  isplitr; · ipureintro; exact write_Y m c ⟨t.val, lt32 t⟩ f hf
  iexact HY

theorem wp_point (c : Dev nD) (t : Fin cfg0.N) (M₁ : Memref sig .tc .vmem S128x4096 .f32) (M₂ M₃ : Memref sig .tc .vmem S4096x256 .f32)
    (Q : PUnit → sProp 𝕄) :
    iprop(owns (c : Thread nD τ) M₁ fullShare (iblk m c 0 t) ∗ owns (c : Thread nD τ) M₂ fullShare (iblk m c 1 t) ∗ panelsTo m c t.val
        ∗ ((owns (c : Thread nD τ) M₁ fullShare (iblk m c 0 t) ∗ owns (c : Thread nD τ) M₂ fullShare (iblk m c 1 t) ∗ panelsTo m c (t.val + 1))
          -∗ run c (if h : k0_cond1 (grid0.coords t) = 1#1 then comm (grid0.coords t) c h M₃ >>= fun _ => pure ⟨⟩ else pure ⟨⟩) Q))
      ⊢ run c (point (grid0.coords t) M₁ M₂ M₃) Q := by
  unfold point run
  simp only [Prog.lift, Prog.bind_op, Prog.bind_ret, wp_deviceId]
  have h := fun ha hb hx hy hz => wp_panel m c t M₁ M₂ Q (k0_off1 (grid0.coords t)) (k0_off1_inb _) ((k0_off1_eq _).trans (by rw [coord_eq])) ha hb hx hy hz
    (fun _ => if h : k0_cond1 (grid0.coords t) = 1#1 then comm (grid0.coords t) c h M₃ >>= fun _ => pure ⟨⟩ else pure ⟨⟩)
  unfold run at h
  exact h _ _ _ _ _

theorem run_pure (c : Dev nD) (Q : PUnit → sProp 𝕄) : Q ⟨⟩ ⊢ run c (pure ⟨⟩ : Prog (Eff F) PUnit) Q := by
  unfold run
  rw [show (pure ⟨⟩ : Prog (Eff F) PUnit) = Prog.ret ⟨⟩ from rfl, wp_ret]
  exact fupd_intro

/-! ## The proof data -/

/-- What a device holds of the protocol until the last point. -/
def ghost (c : Dev nD) : sProp 𝕄 :=
  iprop(∃ κs, recs m κs ∗ levAts L lv ∗ toks c ∗ due c ∗ bigSep Finset.univ fun k : Own => atPos ER (kcell (c, k)) 0 ∅ 0)

/-- The kernel's other buffers, at anything. -/
def bufs (c : Dev nD) : sProp 𝕄 :=
  iprop((∃ f : Vec F S32x128x256 .i8, (((c : Thread nD τ).loc cc0_scratch1) ↦{fullShare} f))
    ∗ (∃ f : Vec F S32x128x256 .i8, (((c : Thread nD τ).loc cc0_scratch2) ↦{fullShare} f))
    ∗ (∃ f : Vec F S8x128 .f32, (((c : Thread nD τ).loc cc0_scratch3) ↦{fullShare} f))
    ∗ (∃ f : Vec F S32x8x128 .f32, (((c : Thread nD τ).loc cc0_scratch4) ↦{fullShare} f)))

def before_ (c : Dev nD) (n : ℕ) : sProp 𝕄 := iprop(ghost m c ∗ panelsTo m c n ∗ bufs c)
def done (c : Dev nD) : sProp 𝕄 :=
  iprop((bigSep Finset.univ fun k : Own => semVal (kcell (c, k)) 0)
    ∗ (∃ f : Vec F S128x8192 .f32, (((c : Thread nD τ).loc cc0_scratch0) ↦{fullShare} f)) ∗ bufs c)

def dats (ρ : Dev nD → PrngReg) (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => OUT m c
  Φ t := if t.val < 32 then before_ m c t.val else done c
  q _ := fullShare
  owed t := if t.val < 32 then O₀ c else 0

variable (ρ : Dev nD → PrngReg)

theorem before_x (c : Dev nD) (t : Fin cfg0.N) (d) : (dats m ρ 0 c).before 0 t d = iblk m c 0 t :=
  ((dats m ρ 0 c).before_in_eq_fetched 0 rfl (fun _ => rfl) (fun _ _ _ => rfl) (fun _ => rfl) t d)
theorem before_w (c : Dev nD) (t : Fin cfg0.N) (d) : (dats m ρ 0 c).before 1 t d = iblk m c 1 t :=
  ((dats m ρ 0 c).before_in_eq_fetched 1 rfl (fun _ => rfl) (fun _ _ _ => rfl) (fun _ => rfl) t d)

theorem stage_out (t : Fin cfg0.N) : st0_2 t = outRef := by
  have h : ∀ s : Fin 1, stage0_2 s = outRef := fun s => by rw [Subsingleton.elim s 0]
  exact h _

theorem owns_out (c : Dev nD) (X : Vec F S4096x256 .f32) :
    (owns (Ix := Unit) (Name := ℕ) (U := UU) (Lvl := ℕ) (c : Thread nD τ) outRef fullShare X : sProp 𝕄)
      = iprop(∃ f : Buf (Elt F) (((c : Dev nD) : Thread nD τ).loc cc0_stg2_0), ⌜f = X⌝ ∗ (((c : Thread nD τ).loc cc0_stg2_0) ↦{fullShare} f)) := by
  unfold owns; simp only [Memref.view_whole, View.read_whole, View.set_whole]

/-! ## The body -/

theorem body_mid (c : Dev nD) (t : Fin cfg0.N) (ht : t.val < 31) (X₃ : Vec F S4096x256 .f32) (Q : PUnit → sProp 𝕄) :
    iprop(before_ m c t.val ∗ owns (c : Thread nD τ) (st0_0 t) fullShare (iblk m c 0 t) ∗ owns (c : Thread nD τ) (st0_1 t) fullShare (iblk m c 1 t)
        ∗ ((before_ m c (t.val + 1) ∗ owns (c : Thread nD τ) (st0_0 t) fullShare (iblk m c 0 t) ∗ owns (c : Thread nD τ) (st0_1 t) fullShare (iblk m c 1 t)) -∗ Q ⟨⟩))
      ⊢ run c (point (grid0.coords t) (st0_0 t) (st0_1 t) (st0_2 t)) Q := by
  unfold before_
  iintro ⟨⟨Hg, HY, Hb⟩, H₁, H₂, Hk⟩
  iapply (wp_point m c t (st0_0 t) (st0_1 t) (st0_2 t) Q)
  isplitl [H₁]; · iexact H₁
  isplitl [H₂]; · iexact H₂
  isplitl [HY]; · iexact HY
  iintro ⟨H₁, H₂, HY⟩
  rw [dif_neg (by rw [cond_iff]; omega)]
  iapply (run_pure c Q)
  iapply Hk
  isplitl [Hg HY Hb]
  · isplitl [Hg]; · iexact Hg
    isplitl [HY]; · iexact HY
    iexact Hb
  isplitl [H₁]; · iexact H₁
  iexact H₂

theorem body_last (c : Dev nD) (t : Fin cfg0.N) (ht : t.val = 31) (Q : PUnit → sProp 𝕄) :
    iprop(before_ m c t.val ∗ ow c (O₀ c) ∗ owns (c : Thread nD τ) (st0_0 t) fullShare (iblk m c 0 t) ∗ owns (c : Thread nD τ) (st0_1 t) fullShare (iblk m c 1 t)
        ∗ (∃ f : Vec F S4096x256 .f32, (((c : Thread nD τ).loc cc0_stg2_0) ↦{fullShare} f))
        ∗ ((done c ∗ ow c 0 ∗ owns (c : Thread nD τ) (st0_0 t) fullShare (iblk m c 0 t) ∗ owns (c : Thread nD τ) (st0_1 t) fullShare (iblk m c 1 t)
            ∗ (((c : Thread nD τ).loc cc0_stg2_0) ↦{fullShare} OUT m c)) -∗ Q ⟨⟩))
      ⊢ run c (point (grid0.coords t) (st0_0 t) (st0_1 t) outRef) Q := by
  unfold before_ ghost done bufs
  iintro ⟨⟨⟨%κs, #HR, #HL, Htok, Hdue, Hat⟩, HY, HQ, Hr, HS, HA⟩, HO, H₁, H₂, Hout, Hk⟩
  iapply (wp_point m c t (st0_0 t) (st0_1 t) outRef Q)
  isplitl [H₁]; · iexact H₁
  isplitl [H₂]; · iexact H₂
  isplitl [HY]; · iexact HY
  iintro ⟨H₁, H₂, HY⟩
  have hc : k0_cond1 (grid0.coords t) = 1#1 := by rw [cond_iff]; exact ht
  rw [dif_pos hc]
  unfold panelsTo
  icases HY with ⟨%f, %hf, HY⟩
  have hfY : f = Y m c := funext fun j => hf j (by rw [ht]; exact (panelOf j).isLt)
  subst hfY
  iapply (wp_comm m κs c hc (fun _ => pure ⟨⟩) Q)
  isplitr; · iexact HR
  isplitr; · iexact HL
  isplitl [HO]; · iexact HO
  isplitl [Htok]; · iexact Htok
  isplitl [Hdue]; · iexact Hdue
  isplitl [Hat]; · iexact Hat
  isplitl [HY]; · iexact HY
  isplitl [HQ]; · iexact HQ
  isplitl [Hr]; · iexact Hr
  isplitl [HS]; · iexact HS
  isplitl [HA]; · iexact HA
  isplitl [Hout]; · iexact Hout
  iintro ⟨HO, HV, HY, HQ, Hr, HS, HA, Hout⟩
  iapply (run_pure c Q)
  iapply Hk
  isplitl [HV HY HQ Hr HS HA]
  · isplitl [HV]; · iexact HV
    isplitl [HY]; · iexists _; iexact HY
    isplitl [HQ]; · iexact HQ
    isplitl [Hr]; · iexact Hr
    isplitl [HS]; · iexact HS
    iexact HA
  isplitl [HO]; · iexact HO
  isplitl [H₁]; · iexact H₁
  isplitl [H₂]; · iexact H₂
  iexact Hout

theorem point_of (t : Fin cfg0.N) : bodyAt0 (F := F) t = point (grid0.coords t) (st0_0 t) (st0_1 t) (st0_2 t) := body_eq _ _ _ _ _ _ _

theorem body_obligation (c : Dev nD) : BodyObligation (dats (F := F) m ρ 0 c) (defs₀ (F := F)) 𝒱₀ () Set.univ := fun t => by
  rw [bigSep_W0, bigSep_W0]
  show iprop((dats m ρ 0 c).Φ t.castSucc ∗ (dats m ρ 0 c).owesAt () t.castSucc
      ∗ (∃ d, owns (c : Thread nD τ) (st0_0 t) fullShare ((dats m ρ 0 c).before 0 t d))
      ∗ (∃ d, owns (c : Thread nD τ) (st0_1 t) fullShare ((dats m ρ 0 c).before 1 t d))
      ∗ (∃ d, owns (c : Thread nD τ) (st0_2 t) fullShare ((dats m ρ 0 c).before 2 t d)))
    ⊢ run c (bodyAt0 t) (fun _ => iprop((dats m ρ 0 c).Φ t.succ ∗ (dats m ρ 0 c).owesAt () t.succ
      ∗ owns (c : Thread nD τ) (st0_0 t) fullShare (iblk m c 0 t) ∗ owns (c : Thread nD τ) (st0_1 t) fullShare (iblk m c 1 t)
      ∗ (dats m ρ 0 c).leavesExact 2 t))
  rw [point_of]
  simp only [before_x, before_w]
  have h0 : (dats m ρ 0 c).Φ t.castSucc = before_ m c t.val := if_pos (lt32 t)
  have o0 : (dats m ρ 0 c).owed t.castSucc = O₀ c := if_pos (lt32 t)
  rw [h0]
  unfold Dat.owesAt Pipeline.owesWithin
  rw [o0]
  by_cases ht : t.val < 31
  · have h1 : (dats m ρ 0 c).Φ t.succ = before_ m c (t.val + 1) := if_pos (by show t.val + 1 < 32; omega)
    have o1 : (dats m ρ 0 c).owed t.succ = O₀ c := if_pos (by show t.val + 1 < 32; omega)
    have hi : cfg0.idle 2 (cfg0.grid.coords t) = true := by
      show (!(k0_cond1 (grid0.coords t) == 1#1)) = true
      have hc : ¬ k0_cond1 (grid0.coords t) = 1#1 := by rw [cond_iff]; omega
      simp [hc]
    have hf : (cfg0.win 2).flush t = false := by
      have := (flush0_2 t).not.mpr (by have := lt32 t; omega)
      simpa using this
    rw [h1, o1, (dats m ρ 0 c).leavesExact_idle 2 t hi hf]
    iintro ⟨HΦ, ⟨%W, %hW, HO⟩, ⟨%d₁, H₁⟩, ⟨%d₂, H₂⟩, H₃⟩
    iapply (body_mid m c t ht (OUT m c) _)
    isplitl [HΦ]; · iexact HΦ
    isplitl [H₁]; · iexact H₁
    isplitl [H₂]; · iexact H₂
    iintro ⟨HΦ, H₁, H₂⟩
    isplitl [HΦ]; · iexact HΦ
    isplitl [HO]
    · iexists W
      isplitr; · ipureintro; exact fun _ _ => Or.inl trivial
      iexact HO
    isplitl [H₁]; · iexact H₁
    isplitl [H₂]; · iexact H₂
    iexact H₃
  · have ht' : t.val = 31 := by have := lt32 t; omega
    have h1 : (dats m ρ 0 c).Φ t.succ = done c := if_neg (by show ¬ t.val + 1 < 32; omega)
    have o1 : (dats m ρ 0 c).owed t.succ = 0 := if_neg (by show ¬ t.val + 1 < 32; omega)
    have hi : cfg0.idle 2 (cfg0.grid.coords t) = false := by
      show (!(k0_cond1 (grid0.coords t) == 1#1)) = false
      have hc : k0_cond1 (grid0.coords t) = 1#1 := by rw [cond_iff]; exact ht'
      rw [hc]; rfl
    have hl : (dats m ρ 0 c).leavesExact 2 t = owns (c : Thread nD τ) (st0_2 t) fullShare (OUT m c) := by
      unfold Dat.leavesExact; rw [hi]; rfl
    rw [h1, o1, hl]
    simp only [stage_out t, owns_out]
    iintro ⟨HΦ, ⟨%W, %hW, HO⟩, ⟨%d₁, H₁⟩, ⟨%d₂, H₂⟩, ⟨%d₃, %f₃, -, H₃⟩⟩
    iapply (body_last m c t ht' _)
    isplitl [HΦ]; · iexact HΦ
    isplitl [HO]; · unfold ow; iexists W; iexact HO
    isplitl [H₁]; · iexact H₁
    isplitl [H₂]; · iexact H₂
    isplitl [H₃]; · iexists f₃; iexact H₃
    unfold ow
    iintro ⟨HΦ, ⟨%W', HO⟩, H₁, H₂, H₃⟩
    isplitl [HΦ]; · iexact HΦ
    isplitl [HO]
    · iexists W'
      isplitr; · ipureintro; exact fun _ _ => Or.inl trivial
      iexact HO
    isplitl [H₁]; · iexact H₁
    isplitl [H₂]; · iexact H₂
    iexists _
    isplitr; · ipureintro; rfl
    iexact H₃

end Cert.KernelIdeal.Comm
-- ==== Proof.Credits.lean ====
module

public import proofs.«01_k».proof.Proof.Exchange

/-! # What the peers owe a device at launch

A device's barrier is owed a unit by each of the others; the arrival semaphore of a slot is owed the
one copy that lands there. -/

@[expose] public section

set_option maxRecDepth 16384

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A sum over ranks, at one cell. -/
theorem owed_at (p : Fin 31 → Dev nD × Own) (n : ℕ) (k : Dev nD × Own) :
    owed (fun r => tallyAt (kcell (p r)) () n) ranks (kcell k) () = ∑ r : Fin 31, if p r = k then n else 0 := by
  have h : ∀ l : List (Fin 31), owed (fun r => tallyAt (kcell (p r)) () n) l (kcell k) () = (l.map fun r => if p r = k then n else 0).sum := by
    intro l
    induction l with
    | nil => rfl
    | cons a l ih =>
      unfold owed
      rw [Pi.add_apply, Finsupp.add_apply, ih, tallyAt_apply, List.map_cons, List.sum_cons, Nat.add_comm]
      refine congrArg (· + _) (if_congr ⟨fun h => (kcell_inj h.1).symm, fun h => ⟨by rw [h], rfl⟩⟩ rfl rfl)
  rw [h, ranks_univ, List.sum_toFinset _ ranks_nodup]

/-- What device `d` owes a cell at launch. -/
theorem launch_owed (d : Dev nD) (k : Dev nD × Own) :
    O₀ d (kcell k) () = (∑ r : Fin 31, if (peer d r, some (3, d)) = k then NQ else 0) + (∑ r : Fin 31, if (peer d r, some (1, d)) = k then NA else 0)
      + ∑ r : Fin 31, if (peer d r, none) = k then 1 else 0 := by
  unfold O₀
  rw [Pi.add_apply, Finsupp.add_apply, Pi.add_apply, Finsupp.add_apply]
  exact congr (congrArg _ (congr (congrArg _ (owed_at (fun r => (peer d r, some (3, d))) NQ k)) (owed_at (fun r => (peer d r, some (1, d))) NA k)))
    (owed_at (fun r => (peer d r, none)) 1 k)

theorem peer_iff (d c : Dev nD) (r : Fin 31) : peer d r = c ↔ d = back c r :=
  ⟨fun h => by rw [← h, back_peer], fun h => by rw [h, peer_back]⟩

theorem sum_bar (c : Dev nD) : ∑ d : Dev nD, O₀ d (kcell (c, none)) () = 31 := by
  have h : ∀ d : Dev nD, O₀ d (kcell (c, none)) () = ∑ r : Fin 31, if d = back c r then 1 else 0 := fun d => by
    rw [launch_owed]
    simp only [Prod.mk.injEq, reduceCtorEq, and_false, if_false, Finset.sum_const_zero, Nat.zero_add, and_true, peer_iff]
  rw [Finset.sum_congr rfl fun d _ => h d, Finset.sum_comm,
    Finset.sum_congr rfl fun r _ => Finset.sum_ite_eq' Finset.univ (back c r) fun _ => 1]
  simp

/-- One slot's arrival: its one sender's one copy. -/
theorem sum_slot (c : Dev nD) (r₀ : Fin 31) (n : ℕ) :
    ∑ d : Dev nD, (∑ r : Fin 31, if peer d r = c ∧ d = back c r₀ then n else 0) = n := by
  have h : ∀ d : Dev nD, (∑ r : Fin 31, if peer d r = c ∧ d = back c r₀ then n else 0) = if d = back c r₀ then n else 0 := fun d => by
    by_cases hd : d = back c r₀
    · subst hd
      have hc : ∀ r, (peer (back c r₀) r = c ∧ True) ↔ r = r₀ := fun r =>
        ⟨fun h => (back_inj c ((peer_iff _ _ _).mp h.1)).symm, fun h => ⟨by rw [h, peer_back], trivial⟩⟩
      simp only [hc, if_true]
      rw [Finset.sum_ite_eq' Finset.univ r₀ fun _ => n, if_pos (Finset.mem_univ _)]
    · simp [hd]
  rw [Finset.sum_congr rfl fun d _ => h d, Finset.sum_ite_eq' Finset.univ (back c r₀) fun _ => n, if_pos (Finset.mem_univ _)]

theorem sum_tile (c : Dev nD) (r₀ : Fin 31) : ∑ d : Dev nD, O₀ d (kcell (c, some (1, back c r₀))) () = NA := by
  rw [← sum_slot c r₀ NA]
  refine Finset.sum_congr rfl fun d _ => ?_
  rw [launch_owed]
  simp only [Prod.mk.injEq, reduceCtorEq, and_false, if_false, Finset.sum_const_zero, Nat.zero_add, Nat.add_zero, Option.some.injEq, true_and,
    show ¬ (3 : Fin 4) = 1 by decide, false_and]

theorem sum_panel (c : Dev nD) (r₀ : Fin 31) : ∑ d : Dev nD, O₀ d (kcell (c, some (3, back c r₀))) () = NQ := by
  rw [← sum_slot c r₀ NQ]
  refine Finset.sum_congr rfl fun d _ => ?_
  rw [launch_owed]
  simp only [Prod.mk.injEq, reduceCtorEq, and_false, if_false, Finset.sum_const_zero, Nat.zero_add, Nat.add_zero, Option.some.injEq, true_and,
    show ¬ (1 : Fin 4) = 3 by decide, false_and]

theorem credit_of (k : Dev nD × Own) (n : ℕ) (h : ∑ d : Dev nD, O₀ d (kcell k) () = n) :
    tallyOn (kcell k) (launchCredit (Pipeline.owing O₀) 0 (kcell k)) = (tallyAt (kcell k) () n : CellTallies nD τ sig Unit) := by
  unfold tallyAt
  refine congrArg _ (Finsupp.ext fun u => ?_)
  cases u
  rw [Pipeline.launchCredit_owing, h, Finsupp.single_eq_same]

/-- What is due to a device, out of its launch credit. -/
theorem due_intro (c : Dev nD) : (Pipeline.launchCred O₀ c : sProp 𝕄) ⊢ due c := by
  have hs : (Pipeline.launchCred O₀ c : sProp 𝕄)
      ⊢ bigSep Finset.univ fun k : Own => cred (tallyOn (kcell (c, k)) (launchCredit (Pipeline.owing O₀) 0 (kcell (c, k)))) := by
    unfold Pipeline.launchCred
    refine BIBase.Entails.trans (bigSep_subset (Finset.subset_univ (Finset.univ.map ⟨csem, csem_inj⟩))) ?_
    rw [bigSep_map]
    exact BI.Entails.refl _
  refine BIBase.Entails.trans hs ?_
  rw [own_split c]
  simp only [credit_of _ _ (sum_bar c), fun r => credit_of _ _ (sum_tile c r), fun r => credit_of _ _ (sum_panel c r)]
  unfold due
  iintro ⟨H0, -, ⟨-, H1⟩, -, -, H3⟩
  isplitl [H0]; · iexact H0
  isplitl [H1]; · iexact H1
  iexact H3

end Cert.KernelIdeal.Comm
-- ==== Proof.Launch.lean ====
module

public import proofs.«01_k».proof.Proof.Body
public import proofs.«01_k».proof.Proof.Credits
public import Idealize.ShloMosaic.Lib.Pipeline.CollectiveSegs

/-! # The launch and the run

The semaphores become the protocol's cells, every device is given the tokens of what it will pay,
and the whole run follows: every result array holds the assembled block. -/

@[expose] public section

set_option maxRecDepth 16384

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

def cells : Finset (GSem nD τ sig) := Finset.univ.map ⟨kcell, kcell_inj⟩

/-- The five payments of a rank. -/
def paid (c : Dev nD) : Fin 5 → Fin 31 → Dev nD × Own
  | 0, r => (peer c r, none)
  | 1, r => (c, some (0, r.succ))
  | 2, r => (peer c r, some (1, c))
  | 3, r => (c, some (2, r.succ))
  | 4, r => (peer c r, some (3, c))

/-- Which of the five a semaphore belongs to. -/
def sort : Own → Fin 5
  | none => 0
  | some (0, _) => 1
  | some (1, _) => 2
  | some (2, _) => 3
  | some (3, _) => 4

theorem sort_paid (c : Dev nD) (j : Fin 5) (r : Fin 31) : sort (paid c j r).2 = j := by fin_cases j <;> rfl

theorem paid_inj (c : Dev nD) (j : Fin 5) : Function.Injective (paid c j) := fun r r' h => by
  fin_cases j
  · exact peer_inj c (congrArg Prod.fst h)
  · exact Fin.succ_injective 31 (congrArg Prod.snd (Option.some.inj (congrArg Prod.snd h)))
  · exact peer_inj c (congrArg Prod.fst h)
  · exact Fin.succ_injective 31 (congrArg Prod.snd (Option.some.inj (congrArg Prod.snd h)))
  · exact peer_inj c (congrArg Prod.fst h)

def tokOf (x : Dev nD × Fin 5 × Fin 31) : GSem nD τ sig × ℕ × Dev nD := (kcell (paid x.1 x.2.1 x.2.2), 0, x.1)

theorem tokOf_inj : Function.Injective tokOf := by
  rintro ⟨c, j, r⟩ ⟨c', j', r'⟩ h
  have hc : c = c' := congrArg (fun x : GSem nD τ sig × ℕ × Dev nD => x.2.2) h
  subst hc
  have hk : paid c j r = paid c j' r' := kcell_inj (congrArg Prod.fst h)
  have hj : j = j' := by rw [← sort_paid c j r, hk, sort_paid]
  subst hj
  rw [paid_inj c j hk]

def tokens : Finset (GSem nD τ sig × ℕ × Dev nD) := Finset.univ.map ⟨tokOf, tokOf_inj⟩

def u₀ : UU := (initOf (Pipeline.cells cfgs cellOf_inj) (Pipeline.launchToks cfgs cellOf_inj), initOf cells tokens)

/-- What the launch deals a device, -/
def G (c : Dev nD) : sProp 𝕄 :=
  iprop((bigSep Finset.univ fun k : Own => roundState ER (Rd m) (kcell (c, k)) 0)
    ∗ (bigSep Finset.univ fun k : Own => reached ER (kcell (c, k)) 0) ∗ (bigSep Finset.univ fun k : Own => atPos ER (kcell (c, k)) 0 ∅ 0) ∗ toks c)

/-- and what it holds once every semaphore is a cell. -/
def G' (c : Dev nD) : sProp 𝕄 :=
  iprop(∃ κs, recs m κs ∗ toks c ∗ bigSep Finset.univ fun k : Own => atPos ER (kcell (c, k)) 0 ∅ 0)

theorem bigSep_cells (Φ : GSem nD τ sig → sProp 𝕄) :
    bigSep cells Φ = bigSep Finset.univ fun c : Dev nD => bigSep Finset.univ fun k : Own => Φ (kcell (c, k)) := by
  unfold cells; rw [bigSep_map, bigSep_univ_prod]; rfl

theorem bigSep_tokens :
    bigSep tokens (fun x => (dutyTok ER x.1 x.2.1 x.2.2 : sProp 𝕄)) = bigSep Finset.univ fun c : Dev nD => toks c := by
  unfold tokens
  rw [bigSep_map, bigSep_univ_prod]
  refine bigSep_congr fun c _ => ?_
  rw [bigSep_univ_prod, bigSep_univ_eq_bigSepL [(0 : Fin 5), 1, 2, 3, 4] (by decide) (by decide)]
  unfold toks
  simp only [bigSep_ranks]
  rfl

theorem deal : BI.own (ER (initOf cells tokens)) ⊢ (|==> bigSep Finset.univ (G m) : sProp 𝕄) := by
  iintro HX
  imod (Rounds.fund ER (Rd m) cells tokens) $$ HX with ⟨Hst, Hr, Hat, Htok⟩
  imodintro
  ihave Hst := (Entails.of_eq (bigSep_cells fun g => roundState ER (Rd m) g 0)) $$ Hst
  ihave Hr := (Entails.of_eq (bigSep_cells (F := F) fun g => reached ER g 0)) $$ Hr
  ihave Hat := (Entails.of_eq (bigSep_cells (F := F) fun g => atPos ER g 0 ∅ 0)) $$ Hat
  ihave Htok := (Entails.of_eq (bigSep_tokens (F := F))) $$ Htok
  unfold G
  simp only [bigSep_sep']
  isplitl [Hst]; · iexact Hst
  isplitl [Hr]; · iexact Hr
  isplitl [Hat]; · iexact Hat
  iexact Htok

/-! ## The semaphores become cells -/

def osem (k : Fin 4 × Fin 32) : SemLoc sig := csem (some k)

theorem ownSemFacts : Pipeline.OwnSemFacts cfg0.spec osem where
  isScoped := by decide +kernel
  inj := fun k k' h => Option.some.inj (csem_inj h)
  disj := fun ⟨k, s⟩ w t h => by
    have h1 : (dsem k s).val = ((cfg0.spec w).sem t).val := congrArg Fin.val (SemLoc.dma.inj h)
    have h2 : ∀ (w : Fin 3) (t : Fin (cfg0.spec w).nbuf), ((cfg0.spec w).sem t).val < 4 := by decide
    have := h2 w t
    rw [dsem_val] at h1
    omega

theorem barrier_eq (c : Dev nD) : (unscopedSems0 c : sProp 𝕄) = semVal (kcell (c, none)) 0 := by
  unfold unscopedSems0; rw [bigSep_eq_bigSepL_of_eq [SemLoc.reg barS] (by decide +kernel) (by decide)]; rfl

theorem sems_eq (c : Dev nD) : (bigSep Finset.univ fun k : Own => semVal (kcell (c, k)) 0 : sProp 𝕄)
    = iprop(unscopedSems0 c ∗ Pipeline.ownSems0 (Ix := Unit) (Name := ℕ) (U := UU) (Lvl := ℕ) (Val := Elt F) (τ := τ) osem c) := by
  rw [bigSep_own, barrier_eq]
  unfold Pipeline.ownSems0
  rw [bigSep_univ_prod]
  rfl

theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Own => iprop(∃ κ : ℕ, cellInv ER (Rd m) κ (kcell (c, k))))
          ∗ (bigSep Finset.univ fun k : Own => reached ER (kcell (c, k)) 0) ∗ (bigSep Finset.univ fun k : Own => atPos ER (kcell (c, k)) 0 ∅ 0) ∗ toks c) := by
  unfold G
  iintro ⟨Hos, Hus, Hst, Hr, Hat, Htok⟩
  imod (show iprop((bigSep Finset.univ fun k : Own => semVal (kcell (c, k)) 0) ∗ bigSep Finset.univ fun k : Own => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hos Hus Hst] with Hinv
  · isplitl [Hos Hus]
    · rw [sems_eq]
      isplitl [Hus] <;> iassumption
    · iexact Hst
  imodintro
  isplitl [Hinv]; · iexact Hinv
  isplitl [Hr]; · iexact Hr
  isplitl [Hat]; · iexact Hat
  iexact Htok

theorem share_out :
    (bigSep Finset.univ fun c : Dev nD => iprop((bigSep Finset.univ fun k : Own => iprop(∃ κ : ℕ, cellInv ER (Rd m) κ (kcell (c, k))))
          ∗ (bigSep Finset.univ fun k : Own => reached ER (kcell (c, k)) 0) ∗ (bigSep Finset.univ fun k : Own => atPos ER (kcell (c, k)) 0 ∅ 0) ∗ toks c) : sProp 𝕄)
      ⊢ bigSep Finset.univ (G' m) := by
  rw [bigSep_sep', bigSep_sep', bigSep_sep', ← bigSep_univ_prod (fun k : Dev nD × Own => iprop(∃ κ : ℕ, cellInv ER (Rd m) κ (kcell k))),
    ← bigSep_univ_prod (fun k : Dev nD × Own => (reached ER (kcell k) 0 : sProp 𝕄))]
  iintro ⟨HI, #HR, Hat, Htok⟩
  ihave HK := (BI.bigSep_exists_pi Finset.univ (fun (k : Dev nD × Own) (κ : ℕ) => (cellInv ER (Rd m) κ (kcell k) : sProp 𝕄))) $$ HI
  icases HK with ⟨%κs, #HI⟩
  have hd : iprop((bigSep Finset.univ fun _ : Dev nD => recs m κs) ∗ (bigSep Finset.univ fun c : Dev nD => (toks c : sProp 𝕄))
      ∗ bigSep Finset.univ fun c : Dev nD => (bigSep Finset.univ fun k : Own => atPos ER (kcell (c, k)) 0 ∅ 0 : sProp 𝕄)) ⊢ bigSep Finset.univ (G' m) := by
    rw [← bigSep_sep', ← bigSep_sep']
    refine bigSep_weaken _ fun c => ?_
    unfold G'
    have h1 : iprop(recs m κs ∗ toks c ∗ bigSep Finset.univ fun k : Own => atPos ER (kcell (c, k)) 0 ∅ 0)
        ⊢ iprop(∃ κs, recs m κs ∗ toks c ∗ bigSep Finset.univ fun k : Own => atPos ER (kcell (c, k)) 0 ∅ 0) := by
      iintro H
      iexists κs
      iexact H
    exact h1
  iapply hd
  isplitr
  · iapply (BI.bigSep_of_persistent Finset.univ (recs m κs))
    unfold recs
    isplitr; · iexact HI
    iexact HR
  isplitl [Htok]; · iexact Htok
  iexact Hat

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (share_out m))

/-! ## The first and the last point -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(ghost m c ∗ emp) := by
  iintro ⟨-, HL, Hcr, -, HG⟩
  ihave Hdue := (due_intro (F := F) c) $$ Hcr
  imodintro
  unfold ghost G'
  icases HG with ⟨%κs, HR, Htok, Hat⟩
  isplitl
  · iexists κs
    isplitl [HR]; · iexact HR
    isplitl [HL]; · iexact HL
    isplitl [Htok]; · iexact Htok
    isplitl [Hdue]; · iexact Hdue
    iexact Hat
  · iempintro

theorem first_intro (c : Dev nD) :
    iprop(ghost m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before_ m c 0 from rfl, scopedRest0_eq]
  unfold before_ panelsTo bufs
  iintro ⟨Hg, -, ⟨%f, HY⟩, HQ, Hr, HS, HA⟩
  isplitl [Hg]; · iexact Hg
  isplitl [HY]
  · iexists f
    isplitr; · ipureintro; exact fun j hj => absurd hj (Nat.not_lt_zero _)
    iexact HY
  isplitl [HQ]; · iexact HQ
  isplitl [Hr]; · iexact Hr
  isplitl [HS]; · iexact HS
  iexact HA

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl, scopedRest0_eq]
  unfold done bufs
  rw [sems_eq]
  iintro ⟨⟨Hu, Ho⟩, HB⟩
  isplitl [Hu]; · iexact Hu
  isplitl [Ho]; · iexact Ho
  iexact HB

theorem waits (c : Dev nD) : (levAts L lv : sProp 𝕄) ⊢ Pipeline.cellsWaits cfgs (dats m ρ) () 0 c :=
  Pipeline.cellsWaits_intro cfgs (dats m ρ) () 0 c fun w s t => by
    have hq : ∀ (w : Fin 3) (t : Fin (cfg0.spec w).nbuf), ((cfg0.spec w).sem t).val < 4 := by decide
    by_cases ht : t.val < 32
    · rw [show (dats m ρ 0 c).owed t = O₀ c from if_pos ht]
      exact mayWait_stage c _ (hq w s)
    · rw [show (dats m ρ 0 c).owed t = 0 from if_neg ht]
      exact mayWait_of c _ _ 0 (by
        unfold lv
        rw [dec_other]
        · exact Nat.le_refl 0
        · rintro ⟨c', k⟩ h
          have h2 : csem k = SemLoc.dma ((cfg0.spec w).sem s) := congrArg (fun g : GSem nD τ sig => g.2) h
          cases k with
          | none => cases h2
          | some k => exact ownSemFacts.disj k w s h2) fun g u h => absurd h (Nat.lt_irrefl 0)

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

/-- Every execution ends with each device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := ghost m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Comm
-- ==== Proof.Frames.lean ====
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Tactic

/-! # The frames

The kernel and its idealisation have the same text, so one run, over any float values, gives both
frames; the reference is host operations alone. -/

@[expose] public section

set_option maxRecDepth 16384

noncomputable section

namespace Cert.Proof

open Idealize.ShloMosaic Idealize.ShloMosaic.TcCoe Idealize.SL.Sem
open Cert.KernelIdeal.Comm Cert.KernelIdeal.Gen

section

open Cert.KernelIdeal

variable {F : FTy → Type} [FloatOps F] (m : (ℓ : Loc nD τ sig) → Buf (Elt F) ℓ) (ρ : Dev nD → PrngReg)

theorem end_x {r : PUnit × MemSt nD τ sig (Elt F)} (h : QC m ρ r) (c : Dev nD) :
    r.2.mem ((c : Thread nD τ).loc main_arg0) = m ((c : Thread nD τ).loc main_arg0) := (h c 0).trans ((dats m ρ 0 c).arrAt_in 0 rfl _)
theorem end_w {r : PUnit × MemSt nD τ sig (Elt F)} (h : QC m ρ r) (c : Dev nD) :
    r.2.mem ((c : Thread nD τ).loc main_arg1) = m ((c : Thread nD τ).loc main_arg1) := (h c 1).trans ((dats m ρ 0 c).arrAt_in 1 rfl _)

/-- The run with its values dropped. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨end_x m ρ h.1 c, end_w m ρ h.1 c⟩, h.2⟩) (run_main m ρ)

end

theorem frame_kernelIdeal : Cert.quiescent_KernelIdeal := fun m ρ _ => run_frame m ρ

/-- The frame the idealisation's text has at the bit patterns: the same proposition as the kernel's own, the
    two programs being one text under two names. -/
def FrameBits : Prop :=
  ∀ (m : (ℓ : Loc Cert.KernelIdeal.nD Cert.KernelIdeal.τ Cert.KernelIdeal.sig) → Buf (Elt Bits) ℓ)
    (ρ : Dev Cert.KernelIdeal.nD → PrngReg),
    θ_run (Cert.KernelIdeal.defs (F := Bits)) (onTc (τ := Cert.KernelIdeal.τ) (Cert.KernelIdeal.main (F := Bits)))
      ⟨m, fun _ => 0, ρ⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0)

/-- The kernel's frame with its trivial precondition spelt away. -/
def FrameKernel : Prop :=
  ∀ (m : (ℓ : Loc Cert.Kernel.nD Cert.Kernel.τ Cert.Kernel.sig) → Buf (Elt Bits) ℓ)
    (ρ : Dev Cert.Kernel.nD → PrngReg),
    θ_run (Cert.Kernel.defs (F := Bits)) (onTc (τ := Cert.Kernel.τ) (Cert.Kernel.main (F := Bits)))
      ⟨m, fun _ => 0, ρ⟩ (fun r => (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
          ∧ r.2.mem ((c.tc : Thread Cert.Kernel.nD Cert.Kernel.τ).loc Cert.Kernel.main_arg1)
            = m ((c.tc : Thread Cert.Kernel.nD Cert.Kernel.τ).loc Cert.Kernel.main_arg1))
        ∧ r.2.sem = fun _ => 0)

theorem frameBits_eq : FrameBits = FrameKernel := by sl_kernel_rfl

theorem frame_kernel : Cert.quiescent_Kernel := fun m ρ _ =>
  (frameBits_eq.mp fun m ρ => run_frame (F := Bits) m ρ : FrameKernel) m ρ

theorem frame_reference : Cert.quiescent_ReferenceIdeal := fun m ρ _ =>
  (θ_run Cert.ReferenceIdeal.defs _ _).mono (fun _ h => ⟨fun c => (h c).2, funext fun sm => nomatch sm.2⟩)
    (Cert.ReferenceIdeal.Value.run m ρ)

end Cert.Proof
-- ==== Proof.Largest.lean ====
module

public import Idealize.ShloMosaic.PureOps.Reduce
public import Idealize.ShloMosaic.PureOps.Ideal.Laws
public import Idealize.ShloMosaic.Lib.Pipeline.Value

/-! # Largest entries, and the round trip through eight bits

At the ideal values a reduction by `maximumf` from −∞ over every axis is the supremum of the entries, in the
kernel and on the host. And a number rounded to an integer and clipped to [−127, 127] comes back unchanged
from its eight-bit word, whatever it was, an infinity included. -/

@[expose] public section

noncomputable section

namespace Cert.Proof

open Idealize.ShloMosaic

/-! ## The words of the literals -/

theorem word_bot : (FloatOps.ofBits .f32 0xFF800000#32 : Ideal .f32) = (⊥ : EReal) := by
  show Ideal.ofBits _ _ = _
  simp [Ideal.ofBits, Ideal.ieee]
theorem word_zero : (FloatOps.ofBits .f32 0x00000000#32 : Ideal .f32) = (0 : EReal) := by
  show Ideal.ofBits _ _ = _
  simp [Ideal.ofBits, Ideal.ieee]
theorem word_hi : (FloatOps.ofBits .f32 0x42FE0000#32 : Ideal .f32) = ((127 : ℝ) : EReal) := by
  show Ideal.ofBits _ _ = _
  simp [Ideal.ofBits, Ideal.ieee, -EReal.coe_mul]; norm_num
theorem word_lo : (FloatOps.ofBits .f32 0xC2FE0000#32 : Ideal .f32) = ((-127 : ℝ) : EReal) := by
  show Ideal.ofBits _ _ = _
  simp [Ideal.ofBits, Ideal.ieee, -EReal.coe_mul]; norm_num

/-! ## The supremum -/

section Sup

variable {s t u : Shape} {axes : List (Fin s.rank)}

/-- Folding `max` from −∞ over everything is the supremum. -/
theorem fold_max_all {ι : Type} [Fintype ι] (f : ι → EReal) : Finset.univ.fold max ⊥ f = ⨆ i, f i :=
  (show Finset.univ.fold max ⊥ f = Finset.univ.sup f from rfl).trans (Finset.sup_univ_eq_iSup f)

/-- Where the result has one place, every index of the operand is dropped to it. -/
theorem all_drop (drop : s.Idx → t.Idx) (ht : ∀ b, t.size b = 1) (j : t.Idx) :
    (Finset.univ.filter fun i => drop i = j) = Finset.univ :=
  Finset.filter_true_of_mem fun i _ => funext fun b => Fin.ext (by
    have h1 := (drop i b).isLt; have h2 := (j b).isLt; have := ht b; omega)

instance maxComm : Std.Commutative (FloatOps.maximumf (F := Ideal) (φ := .f32)) := ⟨fun x y => max_comm (α := EReal) x y⟩
instance maxAssoc : Std.Associative (FloatOps.maximumf (F := Ideal) (φ := .f32)) := ⟨fun x y z => max_assoc (α := EReal) x y z⟩

/-- The kernel's reduction to one place. -/
theorem kernel_max (h : s.Reduces axes t) (ht : ∀ b, t.size b = 1) (src : FVec Ideal s .f32) (hφ : FKind.Formats .f32)
    (hacc : (0xFF800000#32 : BitVec (FTy.f32).bits) = FKind.maximumf.neutral .f32 hφ) (j : t.Idx) :
    multiReduction .maximumf axes t src 0xFF800000#32 h hφ hacc j = (⨆ i, (src i : EReal) : EReal) := by
  rw [multiReduction_maximumf_eq_fold, all_drop _ ht, word_bot]
  exact fold_max_all src

/-- The host's reduction to one place. -/
theorem host_max (h : s.ReducesTo axes t) (ht : ∀ b, t.size b = 1) (x : FVec Ideal s .f32) (hu : 0 < u.numel) (j : t.Idx) :
    Host.reduce FloatOps.maximumf x (constant (F := Ideal) u .f32 0xFF800000#32) h hu j = (⨆ i, (x i : EReal) : EReal) := by
  rw [Host.reduce_eq_fold, all_drop _ ht]
  show Finset.univ.fold _ (FloatOps.ofBits .f32 0xFF800000#32 : Ideal .f32) _ = _
  rw [word_bot]
  exact fold_max_all x

/-- Reshaping leaves the supremum. -/
theorem sup_shapeCast (x : s.Idx → EReal) (h : s.ShapeCasts t) : (⨆ j, shapeCast t x h j) = ⨆ i, x i :=
  (Shape.reshapeEquiv h).iSup_comp (g := x)

/-- What a kernel's maximum over a whole array prints as: the array under a leading unit axis reduced to one place,
    which is taken out of a cast of the result. -/
theorem kernel_max_all {r w : Shape} (x : r.Idx → Ideal .f32) (hc : r.ShapeCasts s) (h : s.Reduces axes t)
    (ht : ∀ b, t.size b = 1) (hφ : FKind.Formats .f32)
    (hacc : (0xFF800000#32 : BitVec (FTy.f32).bits) = FKind.maximumf.neutral .f32 hφ) (hw : t.ShapeCasts w)
    (pos : Fin w.rank → ℕ) (hp : ∀ a, pos a < w.size a) :
    extractAt pos (shapeCast w (multiReduction .maximumf axes t (shapeCast s x hc) 0xFF800000#32 h hφ hacc) hw) hp
      = (⨆ i, (x i : EReal) : EReal) := by
  unfold extractAt
  rw [shapeCast]
  exact (kernel_max h ht _ hφ hacc _).trans (sup_shapeCast (fun i => (x i : EReal)) hc)

/-- The same, laid over an array. -/
theorem splat_max {r b : Shape} {a : Ideal .f32} {x : r.Idx → Ideal .f32} (h : a = (⨆ i, (x i : EReal) : EReal)) (y : b.Idx) :
    broadcast b a y = (⨆ i, (x i : EReal) : EReal) := h

end Sup

/-! ## Eight bits -/

/-- Rounded to an integer and clipped to [−127, 127]. -/
def clip (z : EReal) : EReal := min ((127 : ℝ) : EReal) (max ((-127 : ℝ) : EReal) (Ideal.liftRound Ideal.roundHalfEven z))

theorem clip_int (z : EReal) : ∃ n : ℤ, -127 ≤ n ∧ n ≤ 127 ∧ clip z = ((n : ℝ) : EReal) := by
  induction z with
  | bot => exact ⟨-127, le_refl _, by decide, by
      simp only [clip, Ideal.liftRound_bot, max_bot_right]
      rw [min_eq_right (EReal.coe_le_coe_iff.mpr (by norm_num))]
      norm_num⟩
  | top => exact ⟨127, by decide, le_refl _, by simp [clip]⟩
  | coe r =>
    refine ⟨min 127 (max (-127) (Ideal.roundHalfEven r)), by omega, by omega, ?_⟩
    unfold clip
    rw [Ideal.liftRound_coe, ← EReal.coe_strictMono.monotone.map_max, ← EReal.coe_strictMono.monotone.map_min]
    push_cast
    rfl

theorem byte_int (n : ℤ) (h1 : -127 ≤ n) (h2 : n ≤ 127) : (Ideal.fptosi 8 ((n : ℝ) : EReal)).toInt = n := by
  unfold Ideal.fptosi
  have e : Ideal.toIntClamped (-(2 ^ (8 - 1) : Nat)) ((2 ^ (8 - 1) : Nat) - 1) ((n : ℝ) : EReal) = n := by
    rw [Ideal.toIntClamped_coe, Int.floor_intCast, Int.ceil_intCast]
    rw [ite_self]
    norm_num
    omega
  rw [e]
  interval_cases n <;> rfl

/-- A clipped number comes back from its word. -/
theorem byte_clip (z : EReal) : (((Ideal.fptosi 8 (clip z)).toInt : ℝ) : EReal) = clip z := by
  obtain ⟨n, h1, h2, h⟩ := clip_int z
  rw [h, byte_int n h1 h2]

end Cert.Proof
-- ==== Proof.Block.lean ====
module

public import proofs.«01_k».proof.Proof.Launch
public import proofs.«01_k».proof.Proof.Largest
public import proofs.«01_k».proof.Proof.Gen.KernelIdeal.Points
public import Idealize.ShloMosaic.Lib.MatmulPlain

/-! # What the kernel computes, entry by entry

The blocks the windows fetch, the panel a grid point computes as a sum of products, the scale as the supremum
of every device's entries, and the array a device ends with. -/

@[expose] public section

set_option maxRecDepth 16384

noncomputable section

namespace Cert.Proof

open Idealize.ShloMosaic Idealize.ShloMosaic.TcCoe Idealize.SL.Sem
open Idealize.ShloMosaic.ValueIdx
open Cert.KernelIdeal Cert.KernelIdeal.Comm Cert.KernelIdeal.Gen

/-! ## The windows -/

section

variable {F : FTy → Type} [FloatOps F] (m : (ℓ : Loc nD τ sig) → Buf (Elt F) ℓ) (ρ : Dev nD → PrngReg)

/-- The rows' window is the whole block of rows at every point. -/
theorem block_x (c : Dev nD) (t : Fin cfg0.N) (y : S128x4096.Idx) :
    (iblk m c 0 t : Vec F S128x4096 .f32) y = m ((c : Thread nD τ).loc main_arg0) y := by
  show m ((c : Thread nD τ).loc main_arg0) ((win0_0.rect t).emb y) = _
  exact congrArg _ (funext fun a => Fin.ext (win0_0.rect_emb_val_of_index_zero t a (by fin_cases a <;> rfl) y))

/-- The columns' window at a point is the panel of that number. -/
theorem block_w (c : Dev nD) (p : Fin 32) (y : S4096x256.Idx) (k : S4096x8192.Idx) (h0 : (k 0).val = (y 0).val)
    (h1 : (k 1).val = 256 * p.val + (y 1).val) :
    (iblk m c 1 (pt p) : Vec F S4096x256 .f32) y = m ((c : Thread nD τ).loc main_arg1) k := by
  show m ((c : Thread nD τ).loc main_arg1) ((win0_1.rect (pt p)).emb y) = _
  have i0 : ∀ p : Fin 32, win0_1.index (pt p) 0 = 0 := fun _ => rfl
  have i1 : ∀ p : Fin 32, win0_1.index (pt p) 1 = p.val := by decide
  refine congrArg _ (ext2 ?_ ?_)
  · rw [win0_1.rect_emb_val_of_index_zero (pt p) 0 (i0 p) y, h0]
  · rw [win0_1.rect_emb_val (pt p) y 1, i1, h1]
    show p.val * 256 + _ = _
    omega

/-- The output's window is the whole array. -/
theorem emb_out (t : Fin cfg0.N) (y : S4096x256.Idx) : (win0_2.rect t).emb y = y :=
  funext fun a => Fin.ext (win0_2.rect_emb_val_of_index_zero t a (by fin_cases a <;> rfl) y)

/-- A device's array ends at its output window. -/
theorem end_out {r : PUnit × MemSt nD τ sig (Elt F)} (h : QC m ρ r) (c : Dev nD) :
    r.2.mem ((c : Thread nD τ).loc main_v1) = OUT m c := by
  refine (h c 2).trans ((dats m ρ 0 c).arrAt_eq_of_cover 2 (OUT m c) ?_ ?_)
  · intro t _
    funext y
    show OUT m c _ = OUT m c ((win0_2.rect t).emb y)
    exact congrArg _ ((ext2 rfl rfl).trans (emb_out t y).symm)
  · intro i
    refine ⟨pt 31, (flush0_2 _).mpr rfl, ?_⟩
    have e : ((cfg0.win 2).blk (pt 31)).view.emb i = i := emb_out (pt 31) i
    have := ((cfg0.win 2).blk (pt 31)).view.emb_mem_set i
    rwa [e] at this

end

/-! ## The mathematics -/

/-- The whole first operand's shape. -/
abbrev S4096x4096 : Shape := ⟨2, ![4096, 4096]⟩

/-- One entry of `relu (x · w)`. -/
def entry (X : S4096x4096.Idx → EReal) (W : S4096x8192.Idx → EReal) (J : S4096x8192.Idx) : EReal :=
  max (∑ k : Fin 4096, X (ix2 (J 0) k) * W (ix2 k (J 1))) 0
/-- The scale: the largest entry over 127. -/
def unit (X : S4096x4096.Idx → EReal) (W : S4096x8192.Idx → EReal) : EReal := Ideal.div (⨆ J, entry X W J) ((127 : ℝ) : EReal)
/-- One entry of the result: the quotient by the scale, rounded, clipped and scaled again. -/
def value (X : S4096x4096.Idx → EReal) (W : S4096x8192.Idx → EReal) (J : S4096x8192.Idx) : EReal :=
  clip (Ideal.div (entry X W J) (unit X W)) * unit X W

/-- Row `r` of device `c`'s rows. -/
def row (c : Fin 32) (r : Fin 128) : Fin 4096 := ⟨128 * c.val + r.val, by omega⟩
/-- Column `n` of panel `p`. -/
def col (p : Fin 32) (n : Fin 256) : Fin 8192 := ⟨256 * p.val + n.val, by omega⟩

/-! ## The kernel's values -/

section

variable (m : (ℓ : Loc nD τ sig) → Buf (Elt Ideal) ℓ)
variable (X : S4096x4096.Idx → EReal) (W : S4096x8192.Idx → EReal)

/-- Device `c` holds its rows of `X`. -/
def HoldsX : Prop := ∀ (c : Dev nD) (y : S128x4096.Idx), (m ((c : Thread nD τ).loc main_arg0) y : EReal) = X (ix2 (row c (y 0)) (y 1))
/-- Every device holds `W`. -/
def HoldsW : Prop := ∀ (c : Dev nD) (k : S4096x8192.Idx), (m ((c : Thread nD τ).loc main_arg1) k : EReal) = W k

variable {m X W}

/-- A panel's entry is the whole product's. -/
theorem ycol_eq (hX : HoldsX m X) (hW : HoldsW m W) (c : Dev nD) (p : Fin 32) (x : S128x256.Idx) :
    (ycol m c p x : EReal) = entry X W (ix2 (row c (x 0)) (col p (x 1))) := by
  obtain ⟨r, n, rfl⟩ : ∃ (r : Fin 128) (n : Fin 256), x = ix2 r n := ⟨x 0, x 1, eq_ix2 x⟩
  unfold ycol k0_pay1
  rw [shapeCast_self, shapeCast_self, shapeCast_self]
  show max (FloatOps.matmul (DotDims.plain 128 4096 256) none (iblk m c 0 (pt p) : FVec Ideal S128x4096 .f32)
    (iblk m c 1 (pt p) : FVec Ideal S4096x256 .f32) (constant S128x256 .f32 0x00000000#32) (ix2 r n)) (FloatOps.ofBits .f32 0x00000000#32 : Ideal .f32) = _
  rw [Ideal.matmul_plain_apply, word_zero]
  show max ((FloatOps.ofBits .f32 0x00000000#32 : Ideal .f32) + _) (0 : EReal) = _
  rw [word_zero]
  unfold entry
  refine congrArg (fun z : EReal => max z 0) ((zero_add _).trans (Finset.sum_congr rfl fun k _ => ?_))
  rw [block_x, block_w m c p (ix2 k n) (ix2 k (col p n)) rfl rfl]
  exact congrArg₂ (fun a b : EReal => a * b) (hX c (ix2 r k)) (hW c _)

/-- The index of the whole array that index `j` of device `c`'s block is. -/
def whole (c : Fin 32) (j : S128x8192.Idx) : S4096x8192.Idx := ix2 (row c (j 0)) (j 1)

theorem Y_eq (hX : HoldsX m X) (hW : HoldsW m W) (c : Dev nD) (j : S128x8192.Idx) :
    (Y m c j : EReal) = entry X W (whole c j) := by
  unfold Y
  rw [ycol_eq hX hW]
  refine congrArg _ (ext2 rfl ?_)
  show 256 * ((j 1).val / 256) + (j 1).val % 256 = (j 1).val
  omega

theorem one_place : ∀ b, S1.size b = 1 := by decide

/-- The reduction a device does of its block. -/
theorem pay2_sup (v : Vec Ideal S128x8192 .f32) (y : S8x128.Idx) : (k0_pay2 v y : EReal) = ⨆ j, (v j : EReal) := by
  unfold k0_pay2
  exact splat_max (kernel_max_all v shapeCasts_S128x8192_S1x128x8192 reduces_S1x128x8192_S1 one_place (.inl rfl) rfl
    shapeCasts_S1_S1x1x1 ![0, 0, 0] inpos_S1x1x1_p0_0_0) y

/-- A quotient by the word of 127. -/
theorem over_hi {a b : Ideal .f32} (h : a = b) : Scalar.divf a (Scalar.ofBits .f32 0x42FE0000#32) = Ideal.div b ((127 : ℝ) : EReal) :=
  congrArg₂ Ideal.div h word_hi

/-- The reduction of all tiles, over 127. -/
theorem pay5_sup (v : Vec Ideal S32x8x128 .f32) : (k0_pay5 v : EReal) = Ideal.div (⨆ i, (v i : EReal)) ((127 : ℝ) : EReal) := by
  unfold k0_pay5
  exact over_hi (kernel_max_all v shapeCasts_S32x8x128_S1x32x8x128 reduces_S1x32x8x128_S1 one_place (.inl rfl) rfl
    shapeCasts_S1_S1x1x1x1 ![0, 0, 0, 0] inpos_S1x1x1x1_p0_0_0_0)

theorem tile_eq (hX : HoldsX m X) (hW : HoldsW m W) (c : Dev nD) (y : S8x128.Idx) :
    (tile m c y : EReal) = ⨆ j, entry X W (whole c j) := by
  unfold tile k0_pay3
  rw [shapeCast_self]
  exact (pay2_sup (Y m c) y).trans (iSup_congr fun j => Y_eq hX hW c j)

/-- The supremum over the devices' tiles is the whole array's. -/
theorem sup_tiles : (⨆ i : S32x8x128.Idx, ⨆ j, entry X W (whole (i 0) j)) = ⨆ J, entry X W J := by
  apply le_antisymm
  · exact iSup_le fun i => iSup_le fun j => le_iSup (entry X W) _
  · refine iSup_le fun J => ?_
    have h0 := (J 0).isLt; change (J 0).val < 4096 at h0
    have e : whole (⟨(J 0).val / 128, by omega⟩ : Fin 32) (ix2 (⟨(J 0).val % 128, by omega⟩ : Fin 128) (J 1)) = J :=
      ext2 (show 128 * ((J 0).val / 128) + (J 0).val % 128 = (J 0).val by omega) rfl
    conv_lhs => rw [← e]
    exact le_iSup_of_le (inA (⟨(J 0).val / 128, by omega⟩ : Fin 32) (fun a => ⟨0, by fin_cases a <;> decide⟩))
      (le_iSup (fun j => entry X W (whole _ j)) _)

theorem AR_eq (hX : HoldsX m X) (hW : HoldsW m W) (i : S32x8x128.Idx) :
    (AR m i : EReal) = ⨆ j, entry X W (whole (i 0) j) := by
  unfold AR
  exact tile_eq hX hW _ _

theorem scale_eq (hX : HoldsX m X) (hW : HoldsW m W) : (scale m : EReal) = unit X W := by
  have h : (⨆ i, (AR m i : EReal)) = ⨆ J, entry X W J := by
    rw [← sup_tiles]
    exact congrArg iSup (funext fun i => AR_eq hX hW i)
  unfold scale unit
  rw [← h]
  exact pay5_sup (AR m)

/-- A leading unit axis leaves the row-major position. -/
theorem place (x : S128x256.Idx) : (S128x256.rowMajor x).val = (S1x128x256.rowMajor (oneQ x)).val := by
  rw [Shape.rowMajor_val_three, Shape.rowMajor_val_two]
  show (x 0).val * 256 + (x 1).val = (0 * 128 + (x 0).val) * 256 + (x 1).val
  omega

/-- The word a panel's entry is sent as. -/
theorem QS_eq (hX : HoldsX m X) (hW : HoldsW m W) (c : Dev nD) (i : S32x128x256.Idx) :
    (QS m c i : BitVec 8) = Ideal.fptosi 8 (clip (Ideal.div (entry X W (ix2 (row c (i 1)) (col (i 0) (i 2)))) (unit X W))) := by
  unfold QS k0_pay9
  rw [shapeCast_apply _ _ (oneQ (tailQ i)) (tailQ i) (place (tailQ i))]
  show Ideal.fptosi 8 (min (FloatOps.ofBits .f32 0x42FE0000#32 : Ideal .f32) (max (FloatOps.ofBits .f32 0xC2FE0000#32 : Ideal .f32)
    (Ideal.liftRound Ideal.roundHalfEven (Ideal.div (ycol m c (i 0) (tailQ i)) (scale m))))) = _
  rw [word_hi, word_lo, scale_eq hX hW]
  exact congrArg (fun z => Ideal.fptosi 8 (clip (Ideal.div z (unit X W)))) (ycol_eq hX hW c (i 0) (tailQ i))

/-- A device's output is its columns of the result. -/
theorem OUT_eq (hX : HoldsX m X) (hW : HoldsW m W) (c : Dev nD) (j : S4096x256.Idx) :
    (OUT m c j : EReal) = value X W (ix2 (j 0) (col c (j 1))) := by
  unfold OUT k0_pay49
  show (((shapeCast S128x256 (part m c (sourceOf j)) _ (restO j) : BitVec 8).toInt : ℝ) : EReal) * (scale m : EReal) = _
  rw [shapeCast_apply _ _ (restO j) (oneQ (restO j)) (place (restO j)).symm]
  unfold part
  rw [QS_eq hX hW, byte_clip, scale_eq hX hW]
  unfold value
  have e : ix2 (row (sourceOf j) (restO j 0)) (col c (restO j 1)) = (ix2 (j 0) (col c (j 1)) : S4096x8192.Idx) :=
    ext2 (show 128 * ((j 0).val / 128) + (j 0).val % 128 = (j 0).val by omega) rfl
  exact congrArg (fun z => clip (Ideal.div (entry X W z) (unit X W)) * unit X W) e

end

end Cert.Proof
-- ==== Proof.Equation.lean ====
module

public import proofs.«01_k».proof.Proof.Block
public import proofs.«01_k».proof.Proof.Frames
public import Idealize.ShloMosaic.Lib.StackMember
public import Idealize.ShloMosaic.Lib.Layout

/-! # The equation with the reference

The reference's array, entry by entry, is `value` of the two whole operands; a device's output is its columns
of that; so the two programs compute the same function. -/

@[expose] public section

set_option maxRecDepth 16384

noncomputable section

namespace Cert.Proof

open Idealize.ShloMosaic Idealize.ShloMosaic.TcCoe Idealize.SL.Sem
open Idealize.ShloMosaic.ValueIdx

section

open Cert.ReferenceIdeal Cert.ReferenceIdeal.Gen

variable (X : FVec Ideal S4096x4096 .f32) (W : FVec Ideal S4096x8192 .f32)

/-- The reference's `relu (x · w)`. -/
def refY : FVec Ideal S4096x8192 .f32 :=
  maximumf (Host.dotGeneral dot_S4096x4096_S4096x8192_S4096x8192_1_0_0_1_n_n none X W)
    (broadcastInDim S4096x8192 ![] bcast_S_S4096x8192 (constant S_ .f32 0x00000000#32))
/-- The reference's scale. -/
def refScale : FVec Ideal S_ .f32 :=
  Host.divf (Host.reduce FloatOps.maximumf (Host.absf (refY X W)) (constant S_ .f32 0xFF800000#32)
    reducesTo_S4096x8192_S_d0_1 h_S_) (constant S_ .f32 0x42FE0000#32)
/-- The reference's result. -/
def refOut : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (refY X W) (broadcastInDim S4096x8192 ![] bcast_S_S4096x8192 (refScale X W))))))
    (broadcastInDim S4096x8192 ![] bcast_S_S4096x8192 (refScale X W))

theorem refY_eq (J : S4096x8192.Idx) : (refY X W J : EReal) = entry X W J := by
  obtain ⟨r, n, rfl⟩ : ∃ (r : Fin 4096) (n : Fin 8192), J = ix2 r n := ⟨J 0, J 1, eq_ix2 J⟩
  unfold refY entry
  show max (Host.dotGeneral (DotDims.plain 4096 4096 8192) none X W (ix2 r n)) (FloatOps.ofBits .f32 0x00000000#32 : Ideal .f32) = _
  rw [StackMember.dotGeneral_plain_apply, word_zero]

/-- The absolute value of an entry is the entry. -/
theorem abs_entry (J : S4096x8192.Idx) : max (entry X W J) (-(entry X W J)) = entry X W J := by
  have h : 0 ≤ entry X W J := le_max_right _ _
  exact max_eq_left (le_trans (EReal.neg_le_zero.mpr h) h)

theorem refScale_eq (j : S_.Idx) : (refScale X W j : EReal) = unit X W := by
  unfold refScale unit
  refine congrArg₂ Ideal.div ((host_max reducesTo_S4096x8192_S_d0_1 (fun b => b.elim0) (Host.absf (refY X W)) h_S_ j).trans ?_) word_hi
  refine congrArg iSup (funext fun J => ?_)
  show max (refY X W J : EReal) (-(refY X W J : EReal)) = _
  rw [refY_eq, abs_entry]

theorem refOut_eq (J : S4096x8192.Idx) : (refOut X W J : EReal) = value X W J := by
  unfold refOut value clip
  have h (j) : (broadcastInDim S4096x8192 ![] bcast_S_S4096x8192 (refScale X W) j : EReal) = unit X W := refScale_eq X W _
  show min (FloatOps.ofBits .f32 0x42FE0000#32 : Ideal .f32) (max (FloatOps.ofBits .f32 0xC2FE0000#32 : Ideal .f32)
    (Ideal.liftRound Ideal.roundHalfEven (Ideal.div (refY X W J) (broadcastInDim S4096x8192 ![] bcast_S_S4096x8192 (refScale X W) J))))
      * (broadcastInDim S4096x8192 ![] bcast_S_S4096x8192 (refScale X W) J : EReal) = _
  rw [word_hi, word_lo, h, refY_eq]

end

/-- From memories that agree, the kernel's program and the reference's compute the same array: each device of
the first ends with its columns of what the second ends with. -/
theorem algebraic : Cert.algebraic_KernelIdeal_ReferenceIdeal := by
  intro m ρ m' ρ' _ hin
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, end_x m ρ h.1 c, end_w m ρ h.1 c⟩)
      (Cert.KernelIdeal.Comm.run_main m ρ)
    refine (end_out m ρ h.1 c).trans (funext fun j => ?_)
    rw [Layout.block_apply]
    refine (OUT_eq ?_ ?_ c j).trans ((congrArg (value _ _) ?_).trans (refOut_eq _ _ _).symm)
    · intro c y
      refine (congrFun (hin c).1 y).trans ?_
      rw [Layout.block_apply]
      refine congrArg _ (funext fun a => Fin.ext ?_)
      fin_cases a
      · exact ((Layout.idx_rows_val _ c y).1).trans (congrArg (· + (y 0).val) (Nat.mul_comm c.val 128))
      · exact (Layout.idx_rows_val _ c y).2
    · exact fun c k => congrFun (hin c).2 k
    · refine funext fun a => Fin.ext ?_
      fin_cases a
      · exact (Layout.idx_cols_val _ c j).1.symm
      · exact (congrArg (· + (j 1).val) (Nat.mul_comm 256 c.val)).trans (Layout.idx_cols_val _ c j).2.symm
  · exact (θ_run Cert.ReferenceIdeal.defs _ _).mono (fun _ h => ⟨(h 0).1, (h 0).2⟩) (Cert.ReferenceIdeal.Value.run m' ρ')

end Cert.Proof
-- ==== Proof.lean ====
/- The claims of this directory, assembled from the modules under Proof/. -/
module

public import proofs.«01_k».proof.Defs
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, algebraic⟩

end Cert.Proof

end
